-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1536 : Shape := ⟨2, ![512, 1536]⟩
abbrev S1536x1536 : Shape := ⟨2, ![1536, 1536]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1x384 : Shape := ⟨2, ![1, 384]⟩
abbrev S1 : Shape := ⟨1, ![1]⟩
abbrev S1x1536 : Shape := ⟨2, ![1, 1536]⟩
abbrev S384x1 : Shape := ⟨2, ![384, 1]⟩
abbrev S1x1 : Shape := ⟨2, ![1, 1]⟩
abbrev S512x30 : Shape := ⟨2, ![512, 30]⟩
abbrev S512x768 : Shape := ⟨2, ![512, 768]⟩
abbrev S544x384 : Shape := ⟨2, ![544, 384]⟩
abbrev S384x1152 : Shape := ⟨2, ![384, 1152]⟩
abbrev S384x384 : Shape := ⟨2, ![384, 384]⟩
abbrev S768x384 : Shape := ⟨2, ![768, 384]⟩
abbrev S384x768 : Shape := ⟨2, ![384, 768]⟩
abbrev S1x1152 : Shape := ⟨2, ![1, 1152]⟩
abbrev S512x384 : Shape := ⟨2, ![512, 384]⟩
abbrev S32x384 : Shape := ⟨2, ![32, 384]⟩
abbrev S512x1 : Shape := ⟨2, ![512, 1]⟩
abbrev S512x30x1 : Shape := ⟨3, ![512, 30, 1]⟩

abbrev nBuf : Space → Nat
  | .hbm => 22
  | .vmem => 20
  | .smem => 0
  | _ => 0

abbrev bufTy : (tb : Table) → Fin (tcTables nBuf tb) → BufTy
  | .hbm, ⟨0, _⟩ => ⟨S512x1536, .f32⟩
  | .hbm, ⟨1, _⟩ => ⟨S1536x1536, .f32⟩
  | .hbm, ⟨2, _⟩ => ⟨S1536x384, .f32⟩
  | .hbm, ⟨3, _⟩ => ⟨S1536, .f32⟩
  | .hbm, ⟨4, _⟩ => ⟨S1536, .f32⟩
  | .hbm, ⟨5, _⟩ => ⟨S1536x1536, .f32⟩
  | .hbm, ⟨6, _⟩ => ⟨S1536x384, .f32⟩
  | .hbm, ⟨7, _⟩ => ⟨S1536, .f32⟩
  | .hbm, ⟨8, _⟩ => ⟨S1536, .f32⟩
  | .hbm, ⟨9, _⟩ => ⟨S384x1536, .f32⟩
  | .hbm, ⟨10, _⟩ => ⟨S384, .f32⟩
  | .hbm, ⟨11, _⟩ => ⟨S1x384, .f32⟩
  | .hbm, ⟨12, _⟩ => ⟨S1, .f32⟩
  | .hbm, ⟨13, _⟩ => ⟨S1536, .f32⟩
  | .hbm, ⟨14, _⟩ => ⟨S1x1536, .f32⟩
  | .hbm, ⟨15, _⟩ => ⟨S1536, .f32⟩
  | .hbm, ⟨16, _⟩ => ⟨S1x1536, .f32⟩
  | .hbm, ⟨17, _⟩ => ⟨S1x384, .f32⟩
  | .hbm, ⟨18, _⟩ => ⟨S384x1, .f32⟩
  | .hbm, ⟨19, _⟩ => ⟨S1x1, .f32⟩
  | .hbm, ⟨20, _⟩ => ⟨S512x30, .f32⟩
  | .hbm, ⟨21, _⟩ => ⟨S512x30x1, .f32⟩
  | .local _ .vmem, ⟨0, _⟩ => ⟨S512x1536, .f32⟩
  | .local _ .vmem, ⟨1, _⟩ => ⟨S1536x1536, .f32⟩
  | .local _ .vmem, ⟨2, _⟩ => ⟨S1536x1536, .f32⟩
  | .local _ .vmem, ⟨3, _⟩ => ⟨S1x1536, .f32⟩
  | .local _ .vmem, ⟨4, _⟩ => ⟨S1x1536, .f32⟩
  | .local _ .vmem, ⟨5, _⟩ => ⟨S1536x384, .f32⟩
  | .local _ .vmem, ⟨6, _⟩ => ⟨S1536x384, .f32⟩
  | .local _ .vmem, ⟨7, _⟩ => ⟨S384x1536, .f32⟩
  | .local _ .vmem, ⟨8, _⟩ => ⟨S1x384, .f32⟩
  | .local _ .vmem, ⟨9, _⟩ => ⟨S384x1, .f32⟩
  | .local _ .vmem, ⟨10, _⟩ => ⟨S1x1, .f32⟩
  | .local _ .vmem, ⟨11, _⟩ => ⟨S512x30, .f32⟩
  | .local _ .vmem, ⟨12, _⟩ => ⟨S512x1536, .f32⟩
  | .local _ .vmem, ⟨13, _⟩ => ⟨S512x1536, .f32⟩
  | .local _ .vmem, ⟨14, _⟩ => ⟨S512x768, .f32⟩
  | .local _ .vmem, ⟨15, _⟩ => ⟨S544x384, .f32⟩
  | .local _ .vmem, ⟨16, _⟩ => ⟨S384x1152, .fp8e4m3⟩
  | .local _ .vmem, ⟨17, _⟩ => ⟨S384x1152, .fp8e4m3⟩
  | .local _ .vmem, ⟨18, _⟩ => ⟨S384x384, .bf16⟩
  | .local _ .vmem, ⟨19, _⟩ => ⟨S384x384, .bf16⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v56 : BitVec 32 := Scalar.addi c0_i32 c512_i32
  let c1_i32 : BitVec 32 := 1#32
  ⟨c0_i32, v56, c1_i32⟩
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let v615 : Index := Scalar.indexCast arg20
  let c0_385 : Index := 0#32
  ![v615.toNat, 0]
def k0_off2 (k0_t1 : Fin k0_t1_loop.trips) : Fin 2 → Nat :=
  let c511_i32 : BitVec 32 := 511#32
  let c0_i32 : BitVec 32 := 0#32
  let c1_i32 : BitVec 32 := 1#32
  let arg20 : BitVec 32 := Scf.iv c0_i32 c1_i32 k0_t1
  let v642 : BitVec 32 := Scalar.subi c511_i32 arg20
  let v643 : Index := Scalar.indexCast v642
  let c0_392 : Index := 0#32
  ![v643.toNat, 0]
def k0_off3 (k0_t1 : Fin k0_t1_loop.trips) : Fin 2 → Nat :=
  let c0_i32 : BitVec 32 := 0#32
  let c1_i32 : BitVec 32 := 1#32
  let arg20 : BitVec 32 := Scf.iv c0_i32 c1_i32 k0_t1
  let v670 : Index := Scalar.indexCast arg20
  let c0_399 : Index := 0#32
  ![v670.toNat, 0]
def k0_off4 (k0_t1 : Fin k0_t1_loop.trips) : Fin 2 → Nat :=
  let c511_i32_400 : BitVec 32 := 511#32
  let c0_i32 : BitVec 32 := 0#32
  let c1_i32 : BitVec 32 := 1#32
  let arg20 : BitVec 32 := Scf.iv c0_i32 c1_i32 k0_t1
  let v674 : BitVec 32 := Scalar.subi c511_i32_400 arg20
  let v675 : Index := Scalar.indexCast v674
  let c384 : Index := 384#32
  ![v675.toNat, 384]
abbrev stage0_0 : Fin 1 → Memref sig .tc .vmem S512x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S384x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x30 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S512x1536 : Shape := ⟨2, ![512, 1536]⟩
abbrev S1536x1536 : Shape := ⟨2, ![1536, 1536]⟩
abbrev S1536x384 : Shape := ⟨2, ![1536, 384]⟩
abbrev S1536 : Shape := ⟨1, ![1536]⟩
abbrev S384x1536 : Shape := ⟨2, ![384, 1536]⟩
abbrev S384 : Shape := ⟨1, ![384]⟩
abbrev S1x384 : Shape := ⟨2, ![1, 384]⟩
abbrev S1 : Shape := ⟨1, ![1]⟩
abbrev S_ : Shape := ⟨0, ![]⟩
abbrev S512x384 : Shape := ⟨2, ![512, 384]⟩
abbrev S1x1536 : Shape := ⟨2, ![1, 1536]⟩
abbrev S512x768 : Shape := ⟨2, ![512, 768]⟩
abbrev S512 : Shape := ⟨1, ![512]⟩
abbrev S512x1 : Shape := ⟨2, ![512, 1]⟩
abbrev S1x30 : Shape := ⟨2, ![1, 30]⟩
abbrev S512x30 : Shape := ⟨2, ![512, 30]⟩
abbrev S30 : Shape := ⟨1, ![30]⟩
abbrev S512x30x1 : Shape := ⟨3, ![512, 30, 1]⟩
abbrev S512x30x768 : Shape := ⟨3, ![512, 30, 768]⟩
abbrev S512x30x1536 : Shape := ⟨3, ![512, 30, 1536]⟩
abbrev S512x30x384 : Shape := ⟨3, ![512, 30, 384]⟩
abbrev S1x1x384 : Shape := ⟨3, ![1, 1, 384]⟩
abbrev S384x1 : Shape := ⟨2, ![384, 1]⟩
abbrev S1x1x1 : Shape := ⟨3, ![1, 1, 1]⟩

abbrev nBuf : Space → Nat
  | .hbm => 200
  | .vmem => 0
  | .smem => 0
  | _ => 0

abbrev hbmTy0_0 (i : Nat) : BufTy := match i % 128 with
  | 0 => ⟨S512x1536, .f32⟩
  | 1 => ⟨S1536x1536, .f32⟩
  | 2 => ⟨S1536x384, .f32⟩
  | 3 => ⟨S1536, .f32⟩
  | 4 => ⟨S1536, .f32⟩
  | 5 => ⟨S1536x1536, .f32⟩
  | 6 => ⟨S1536x384, .f32⟩
  | 7 => ⟨S1536, .f32⟩
  | 8 => ⟨S1536, .f32⟩
  | 9 => ⟨S384x1536, .f32⟩
  | 10 => ⟨S384, .f32⟩
  | 11 => ⟨S1x384, .f32⟩
  | 12 => ⟨S1, .f32⟩
  | 13 => ⟨S_, .f32⟩
  | 14 => ⟨S384, .f32⟩
  | 15 => ⟨S_, .f32⟩
  | 16 => ⟨S384, .f32⟩
  | 17 => ⟨S_, .f32⟩
  | 18 => ⟨S512x384, .f32⟩
  | 19 => ⟨S_, .i32⟩
  | 20 => ⟨S512x1536, .f32⟩
  | 21 => ⟨S1536x1536, .f32⟩
  | 22 => ⟨S1536x384, .f32⟩
  | 23 => ⟨S1536, .f32⟩
  | 24 => ⟨S1536, .f32⟩
  | 25 => ⟨S_, .i32⟩
  | 26 => ⟨S384, .f32⟩
  | 27 => ⟨S384, .f32⟩
  | 28 => ⟨S512x384, .f32⟩
  | 29 => ⟨S_, .i32⟩
  | 30 => ⟨S_, .i1⟩
  | 31 => ⟨S_, .i32⟩
  | 32 => ⟨S1x1536, .f32⟩
  | 33 => ⟨S1536, .f32⟩
  | 34 => ⟨S1536, .f32⟩
  | 35 => ⟨S1536, .f32⟩
  | 36 => ⟨S1536, .f32⟩
  | 37 => ⟨S1536, .f32⟩
  | 38 => ⟨S1536, .f32⟩
  | 39 => ⟨S384, .f32⟩
  | 40 => ⟨S384, .f32⟩
  | 41 => ⟨S384, .f32⟩
  | 42 => ⟨S_, .f32⟩
  | 43 => ⟨S384, .f32⟩
  | 44 => ⟨S384, .f32⟩
  | 45 => ⟨S_, .f32⟩
  | 46 => ⟨S384, .f32⟩
  | 47 => ⟨S384, .f32⟩
  | 48 => ⟨S384, .f32⟩
  | 49 => ⟨S384, .f32⟩
  | 50 => ⟨S384, .f32⟩
  | 51 => ⟨S_, .f32⟩
  | 52 => ⟨S384, .f32⟩
  | 53 => ⟨S384, .f32⟩
  | 54 => ⟨S_, .f32⟩
  | 55 => ⟨S384, .f32⟩
  | 56 => ⟨S384, .f32⟩
  | 57 => ⟨S384, .f32⟩
  | 58 => ⟨S384, .f32⟩
  | 59 => ⟨S384, .f32⟩
  | 60 => ⟨S384, .f32⟩
  | 61 => ⟨S384, .f32⟩
  | 62 => ⟨S_, .f32⟩
  | 63 => ⟨S384, .f32⟩
  | 64 => ⟨S384, .f32⟩
  | 65 => ⟨S_, .f32⟩
  | 66 => ⟨S384, .f32⟩
  | 67 => ⟨S384, .f32⟩
  | 68 => ⟨S384, .f32⟩
  | 69 => ⟨S384, .f32⟩
  | 70 => ⟨S384, .f32⟩
  | 71 => ⟨S384, .f32⟩
  | 72 => ⟨S384, .f32⟩
  | 73 => ⟨S1x384, .f32⟩
  | 74 => ⟨S_, .i32⟩
  | 75 => ⟨S512x384, .f32⟩
  | 76 => ⟨S_, .i32⟩
  | 77 => ⟨S_, .i32⟩
  | 78 => ⟨S512x1536, .f32⟩
  | 79 => ⟨S_, .f32⟩
  | 80 => ⟨S384, .f32⟩
  | 81 => ⟨S_, .f32⟩
  | 82 => ⟨S384, .f32⟩
  | 83 => ⟨S_, .f32⟩
  | 84 => ⟨S512x384, .f32⟩
  | 85 => ⟨S_, .i32⟩
  | 86 => ⟨S512x1536, .f32⟩
  | 87 => ⟨S1536x1536, .f32⟩
  | 88 => ⟨S1536x384, .f32⟩
  | 89 => ⟨S1536, .f32⟩
  | 90 => ⟨S1536, .f32⟩
  | 91 => ⟨S_, .i32⟩
  | 92 => ⟨S384, .f32⟩
  | 93 => ⟨S384, .f32⟩
  | 94 => ⟨S512x384, .f32⟩
  | 95 => ⟨S_, .i32⟩
  | 96 => ⟨S_, .i1⟩
  | 97 => ⟨S_, .i32⟩
  | 98 => ⟨S1x1536, .f32⟩
  | 99 => ⟨S1536, .f32⟩
  | 100 => ⟨S1536, .f32⟩
  | 101 => ⟨S1536, .f32⟩
  | 102 => ⟨S1536, .f32⟩
  | 103 => ⟨S1536, .f32⟩
  | 104 => ⟨S1536, .f32⟩
  | 105 => ⟨S384, .f32⟩
  | 106 => ⟨S384, .f32⟩
  | 107 => ⟨S384, .f32⟩
  | 108 => ⟨S_, .f32⟩
  | 109 => ⟨S384, .f32⟩
  | 110 => ⟨S384, .f32⟩
  | 111 => ⟨S_, .f32⟩
  | 112 => ⟨S384, .f32⟩
  | 113 => ⟨S384, .f32⟩
  | 114 => ⟨S384, .f32⟩
  | 115 => ⟨S384, .f32⟩
  | 116 => ⟨S384, .f32⟩
  | 117 => ⟨S_, .f32⟩
  | 118 => ⟨S384, .f32⟩
  | 119 => ⟨S384, .f32⟩
  | 120 => ⟨S_, .f32⟩
  | 121 => ⟨S384, .f32⟩
  | 122 => ⟨S384, .f32⟩
  | 123 => ⟨S384, .f32⟩
  | 124 => ⟨S384, .f32⟩
  | 125 => ⟨S384, .f32⟩
  | 126 => ⟨S384, .f32⟩
  | 127 => ⟨S384, .f32⟩
  | _ => ⟨S512x1536, .f32⟩

abbrev hbmTy0_1 (i : Nat) : BufTy := match i % 128 with
  | 0 => ⟨S_, .f32⟩
  | 1 => ⟨S384, .f32⟩
  | 2 => ⟨S384, .f32⟩
  | 3 => ⟨S_, .f32⟩
  | 4 => ⟨S384, .f32⟩
  | 5 => ⟨S384, .f32⟩
  | 6 => ⟨S384, .f32⟩
  | 7 => ⟨S384, .f32⟩
  | 8 => ⟨S384, .f32⟩
  | 9 => ⟨S384, .f32⟩
  | 10 => ⟨S384, .f32⟩
  | 11 => ⟨S1x384, .f32⟩
  | 12 => ⟨S_, .i32⟩
  | 13 => ⟨S512x384, .f32⟩
  | 14 => ⟨S_, .i32⟩
  | 15 => ⟨S_, .i32⟩
  | 16 => ⟨S512x384, .f32⟩
  | 17 => ⟨S512x768, .f32⟩
  | 18 => ⟨S512, .i32⟩
  | 19 => ⟨S512x1, .i32⟩
  | 20 => ⟨S_, .i32⟩
  | 21 => ⟨S1x30, .i32⟩
  | 22 => ⟨S512x30, .i32⟩
  | 23 => ⟨S512x30, .i32⟩
  | 24 => ⟨S512x30, .i32⟩
  | 25 => ⟨S30, .i32⟩
  | 26 => ⟨S1x30, .i32⟩
  | 27 => ⟨S512x30, .i32⟩
  | 28 => ⟨S512x30, .i32⟩
  | 29 => ⟨S_, .i32⟩
  | 30 => ⟨S512x30, .i32⟩
  | 31 => ⟨S512x30, .i1⟩
  | 32 => ⟨S_, .i32⟩
  | 33 => ⟨S512x30, .i32⟩
  | 34 => ⟨S512x30, .i1⟩
  | 35 => ⟨S_, .i32⟩
  | 36 => ⟨S512x30, .i32⟩
  | 37 => ⟨S512x30, .i32⟩
  | 38 => ⟨S512x30, .i32⟩
  | 39 => ⟨S512x30x1, .i32⟩
  | 40 => ⟨S512x30x768, .f32⟩
  | 41 => ⟨S_, .i32⟩
  | 42 => ⟨S512x30, .i32⟩
  | 43 => ⟨S512x30, .i32⟩
  | 44 => ⟨S_, .i32⟩
  | 45 => ⟨S512x30, .i32⟩
  | 46 => ⟨S512x30, .i1⟩
  | 47 => ⟨S_, .i32⟩
  | 48 => ⟨S512x30, .i32⟩
  | 49 => ⟨S512x30, .i32⟩
  | 50 => ⟨S512x30, .i32⟩
  | 51 => ⟨S512x30x1, .i32⟩
  | 52 => ⟨S512x30x768, .f32⟩
  | 53 => ⟨S512x30x1536, .f32⟩
  | 54 => ⟨S1536x384, .f32⟩
  | 55 => ⟨S512x30x384, .f32⟩
  | 56 => ⟨S1x1x384, .f32⟩
  | 57 => ⟨S512x30x384, .f32⟩
  | 58 => ⟨S512x30x384, .f32⟩
  | 59 => ⟨S_, .f32⟩
  | 60 => ⟨S512x30x384, .f32⟩
  | 61 => ⟨S512x30x384, .f32⟩
  | 62 => ⟨S384x1, .f32⟩
  | 63 => ⟨S512x30x1, .f32⟩
  | 64 => ⟨S1x1x1, .f32⟩
  | 65 => ⟨S512x30x1, .f32⟩
  | 66 => ⟨S512x30x1, .f32⟩
  | 67 => ⟨S512x30x1, .i1⟩
  | 68 => ⟨S_, .f32⟩
  | 69 => ⟨S_, .f32⟩
  | 70 => ⟨S512x30x1, .f32⟩
  | 71 => ⟨S512x30x1, .f32⟩
  | _ => ⟨S512x1536, .f32⟩

abbrev hbmTy (i : Nat) : BufTy := match i / 128 with
  | 0 => hbmTy0_0 i
  | 1 => hbmTy0_1 i
  | _ => ⟨S512x1536, .f32⟩

abbrev bufTy : (tb : Table) → Fin (tcTables nBuf tb) → BufTy
  | .hbm, ⟨i, _⟩ => hbmTy i
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_c : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev main_v3_3 : Ref sig .tc := ⟨.hbm, 23, rfl⟩
abbrev main_v3_4 : Ref sig .tc := ⟨.hbm, 24, rfl⟩
abbrev main_v3_5 : Ref sig .tc := ⟨.hbm, 25, rfl⟩
abbrev main_v3_6 : Ref sig .tc := ⟨.hbm, 26, rfl⟩
abbrev main_v3_7 : Ref sig .tc := ⟨.hbm, 27, rfl⟩
abbrev main_v3_8 : Ref sig .tc := ⟨.hbm, 28, rfl⟩
abbrev main_while0c_c_22 : Ref sig .tc := ⟨.hbm, 29, rfl⟩
abbrev main_while0c_v53 : Ref sig .tc := ⟨.hbm, 30, rfl⟩
abbrev main_while0b_call0_c : Ref sig .tc := ⟨.hbm, 31, rfl⟩
abbrev main_while0b_call0_v0 : Ref sig .tc := ⟨.hbm, 32, rfl⟩
abbrev main_while0b_v53 : Ref sig .tc := ⟨.hbm, 33, rfl⟩
abbrev main_while0b_v54 : Ref sig .tc := ⟨.hbm, 34, rfl⟩
abbrev main_while0b_v55 : Ref sig .tc := ⟨.hbm, 35, rfl⟩
abbrev main_while0b_v56 : Ref sig .tc := ⟨.hbm, 36, rfl⟩
abbrev main_while0b_v57 : Ref sig .tc := ⟨.hbm, 37, rfl⟩
abbrev main_while0b_v58 : Ref sig .tc := ⟨.hbm, 38, rfl⟩
abbrev main_while0b_v59 : Ref sig .tc := ⟨.hbm, 39, rfl⟩
abbrev main_while0b_v60 : Ref sig .tc := ⟨.hbm, 40, rfl⟩
abbrev main_while0b_v61 : Ref sig .tc := ⟨.hbm, 41, rfl⟩
abbrev main_while0b_cst_22 : Ref sig .tc := ⟨.hbm, 42, rfl⟩
abbrev main_while0b_v62 : Ref sig .tc := ⟨.hbm, 43, rfl⟩
abbrev main_while0b_v63 : Ref sig .tc := ⟨.hbm, 44, rfl⟩
abbrev main_while0b_cst_23 : Ref sig .tc := ⟨.hbm, 45, rfl⟩
abbrev main_while0b_v64 : Ref sig .tc := ⟨.hbm, 46, rfl⟩
abbrev main_while0b_v65 : Ref sig .tc := ⟨.hbm, 47, rfl⟩
abbrev main_while0b_v66 : Ref sig .tc := ⟨.hbm, 48, rfl⟩
abbrev main_while0b_v67 : Ref sig .tc := ⟨.hbm, 49, rfl⟩
abbrev main_while0b_v68 : Ref sig .tc := ⟨.hbm, 50, rfl⟩
abbrev main_while0b_cst_24 : Ref sig .tc := ⟨.hbm, 51, rfl⟩
abbrev main_while0b_v69 : Ref sig .tc := ⟨.hbm, 52, rfl⟩
abbrev main_while0b_v70 : Ref sig .tc := ⟨.hbm, 53, rfl⟩
abbrev main_while0b_cst_25 : Ref sig .tc := ⟨.hbm, 54, rfl⟩
abbrev main_while0b_v71 : Ref sig .tc := ⟨.hbm, 55, rfl⟩
abbrev main_while0b_v72 : Ref sig .tc := ⟨.hbm, 56, rfl⟩
abbrev main_while0b_v73 : Ref sig .tc := ⟨.hbm, 57, rfl⟩
abbrev main_while0b_v74 : Ref sig .tc := ⟨.hbm, 58, rfl⟩
abbrev main_while0b_v75 : Ref sig .tc := ⟨.hbm, 59, rfl⟩
abbrev main_while0b_v76 : Ref sig .tc := ⟨.hbm, 60, rfl⟩
abbrev main_while0b_v77 : Ref sig .tc := ⟨.hbm, 61, rfl⟩
abbrev main_while0b_cst_26 : Ref sig .tc := ⟨.hbm, 62, rfl⟩
abbrev main_while0b_v78 : Ref sig .tc := ⟨.hbm, 63, rfl⟩
abbrev main_while0b_v79 : Ref sig .tc := ⟨.hbm, 64, rfl⟩
abbrev main_while0b_cst_27 : Ref sig .tc := ⟨.hbm, 65, rfl⟩
abbrev main_while0b_v80 : Ref sig .tc := ⟨.hbm, 66, rfl⟩
abbrev main_while0b_v81 : Ref sig .tc := ⟨.hbm, 67, rfl⟩
abbrev main_while0b_v82 : Ref sig .tc := ⟨.hbm, 68, rfl⟩
abbrev main_while0b_v83 : Ref sig .tc := ⟨.hbm, 69, rfl⟩
abbrev main_while0b_v84 : Ref sig .tc := ⟨.hbm, 70, rfl⟩
abbrev main_while0b_v85 : Ref sig .tc := ⟨.hbm, 71, rfl⟩
abbrev main_while0b_v86 : Ref sig .tc := ⟨.hbm, 72, rfl⟩
abbrev main_while0b_call1_v0 : Ref sig .tc := ⟨.hbm, 73, rfl⟩
abbrev main_while0b_call1_c : Ref sig .tc := ⟨.hbm, 74, rfl⟩
abbrev main_while0b_v87 : Ref sig .tc := ⟨.hbm, 75, rfl⟩
abbrev main_while0b_c_28 : Ref sig .tc := ⟨.hbm, 76, rfl⟩
abbrev main_while0b_v88 : Ref sig .tc := ⟨.hbm, 77, rfl⟩
abbrev main_v4 : Ref sig .tc := ⟨.hbm, 78, rfl⟩
abbrev main_cst_2 : Ref sig .tc := ⟨.hbm, 79, rfl⟩
abbrev main_v5 : Ref sig .tc := ⟨.hbm, 80, rfl⟩
abbrev main_cst_3 : Ref sig .tc := ⟨.hbm, 81, rfl⟩
abbrev main_v6 : Ref sig .tc := ⟨.hbm, 82, rfl⟩
abbrev main_cst_4 : Ref sig .tc := ⟨.hbm, 83, rfl⟩
abbrev main_v7 : Ref sig .tc := ⟨.hbm, 84, rfl⟩
abbrev main_c_5 : Ref sig .tc := ⟨.hbm, 85, rfl⟩
abbrev main_v8_0 : Ref sig .tc := ⟨.hbm, 86, rfl⟩
abbrev main_v8_1 : Ref sig .tc := ⟨.hbm, 87, rfl⟩
abbrev main_v8_2 : Ref sig .tc := ⟨.hbm, 88, rfl⟩
abbrev main_v8_3 : Ref sig .tc := ⟨.hbm, 89, rfl⟩
abbrev main_v8_4 : Ref sig .tc := ⟨.hbm, 90, rfl⟩
abbrev main_v8_5 : Ref sig .tc := ⟨.hbm, 91, rfl⟩
abbrev main_v8_6 : Ref sig .tc := ⟨.hbm, 92, rfl⟩
abbrev main_v8_7 : Ref sig .tc := ⟨.hbm, 93, rfl⟩
abbrev main_v8_8 : Ref sig .tc := ⟨.hbm, 94, rfl⟩
abbrev main_while1c_c_22 : Ref sig .tc := ⟨.hbm, 95, rfl⟩
abbrev main_while1c_v53 : Ref sig .tc := ⟨.hbm, 96, rfl⟩
abbrev main_while1b_call2_c : Ref sig .tc := ⟨.hbm, 97, rfl⟩
abbrev main_while1b_call2_v0 : Ref sig .tc := ⟨.hbm, 98, rfl⟩
abbrev main_while1b_v53 : Ref sig .tc := ⟨.hbm, 99, rfl⟩
abbrev main_while1b_v54 : Ref sig .tc := ⟨.hbm, 100, rfl⟩
abbrev main_while1b_v55 : Ref sig .tc := ⟨.hbm, 101, rfl⟩
abbrev main_while1b_v56 : Ref sig .tc := ⟨.hbm, 102, rfl⟩
abbrev main_while1b_v57 : Ref sig .tc := ⟨.hbm, 103, rfl⟩
abbrev main_while1b_v58 : Ref sig .tc := ⟨.hbm, 104, rfl⟩
abbrev main_while1b_v59 : Ref sig .tc := ⟨.hbm, 105, rfl⟩
abbrev main_while1b_v60 : Ref sig .tc := ⟨.hbm, 106, rfl⟩
abbrev main_while1b_v61 : Ref sig .tc := ⟨.hbm, 107, rfl⟩
abbrev main_while1b_cst_22 : Ref sig .tc := ⟨.hbm, 108, rfl⟩
abbrev main_while1b_v62 : Ref sig .tc := ⟨.hbm, 109, rfl⟩
abbrev main_while1b_v63 : Ref sig .tc := ⟨.hbm, 110, rfl⟩
abbrev main_while1b_cst_23 : Ref sig .tc := ⟨.hbm, 111, rfl⟩
abbrev main_while1b_v64 : Ref sig .tc := ⟨.hbm, 112, rfl⟩
abbrev main_while1b_v65 : Ref sig .tc := ⟨.hbm, 113, rfl⟩
abbrev main_while1b_v66 : Ref sig .tc := ⟨.hbm, 114, rfl⟩
abbrev main_while1b_v67 : Ref sig .tc := ⟨.hbm, 115, rfl⟩
abbrev main_while1b_v68 : Ref sig .tc := ⟨.hbm, 116, rfl⟩
abbrev main_while1b_cst_24 : Ref sig .tc := ⟨.hbm, 117, rfl⟩
abbrev main_while1b_v69 : Ref sig .tc := ⟨.hbm, 118, rfl⟩
abbrev main_while1b_v70 : Ref sig .tc := ⟨.hbm, 119, rfl⟩
abbrev main_while1b_cst_25 : Ref sig .tc := ⟨.hbm, 120, rfl⟩
abbrev main_while1b_v71 : Ref sig .tc := ⟨.hbm, 121, rfl⟩
abbrev main_while1b_v72 : Ref sig .tc := ⟨.hbm, 122, rfl⟩
abbrev main_while1b_v73 : Ref sig .tc := ⟨.hbm, 123, rfl⟩
abbrev main_while1b_v74 : Ref sig .tc := ⟨.hbm, 124, rfl⟩
abbrev main_while1b_v75 : Ref sig .tc := ⟨.hbm, 125, rfl⟩
abbrev main_while1b_v76 : Ref sig .tc := ⟨.hbm, 126, rfl⟩
abbrev main_while1b_v77 : Ref sig .tc := ⟨.hbm, 127, rfl⟩
abbrev main_while1b_cst_26 : Ref sig .tc := ⟨.hbm, 128, rfl⟩
abbrev main_while1b_v78 : Ref sig .tc := ⟨.hbm, 129, rfl⟩
abbrev main_while1b_v79 : Ref sig .tc := ⟨.hbm, 130, rfl⟩
abbrev main_while1b_cst_27 : Ref sig .tc := ⟨.hbm, 131, rfl⟩
abbrev main_while1b_v80 : Ref sig .tc := ⟨.hbm, 132, rfl⟩
abbrev main_while1b_v81 : Ref sig .tc := ⟨.hbm, 133, rfl⟩
abbrev main_while1b_v82 : Ref sig .tc := ⟨.hbm, 134, rfl⟩
abbrev main_while1b_v83 : Ref sig .tc := ⟨.hbm, 135, rfl⟩
abbrev main_while1b_v84 : Ref sig .tc := ⟨.hbm, 136, rfl⟩
abbrev main_while1b_v85 : Ref sig .tc := ⟨.hbm, 137, rfl⟩
abbrev main_while1b_v86 : Ref sig .tc := ⟨.hbm, 138, rfl⟩
abbrev main_while1b_call3_v0 : Ref sig .tc := ⟨.hbm, 139, rfl⟩
abbrev main_while1b_call3_c : Ref sig .tc := ⟨.hbm, 140, rfl⟩
abbrev main_while1b_v87 : Ref sig .tc := ⟨.hbm, 141, rfl⟩
abbrev main_while1b_c_28 : Ref sig .tc := ⟨.hbm, 142, rfl⟩
abbrev main_while1b_v88 : Ref sig .tc := ⟨.hbm, 143, rfl⟩
abbrev main_v9 : Ref sig .tc := ⟨.hbm, 144, rfl⟩
abbrev main_v10 : Ref sig .tc := ⟨.hbm, 145, rfl⟩
abbrev main_v11 : Ref sig .tc := ⟨.hbm, 146, rfl⟩
abbrev main_v12 : Ref sig .tc := ⟨.hbm, 147, rfl⟩
abbrev main_c_6 : Ref sig .tc := ⟨.hbm, 148, rfl⟩
abbrev main_v13 : Ref sig .tc := ⟨.hbm, 149, rfl⟩
abbrev main_v14 : Ref sig .tc := ⟨.hbm, 150, rfl⟩
abbrev main_v15 : Ref sig .tc := ⟨.hbm, 151, rfl⟩
abbrev main_v16 : Ref sig .tc := ⟨.hbm, 152, rfl⟩
abbrev main_v17 : Ref sig .tc := ⟨.hbm, 153, rfl⟩
abbrev main_v18 : Ref sig .tc := ⟨.hbm, 154, rfl⟩
abbrev main_v19 : Ref sig .tc := ⟨.hbm, 155, rfl⟩
abbrev main_v20 : Ref sig .tc := ⟨.hbm, 156, rfl⟩
abbrev main_c_7 : Ref sig .tc := ⟨.hbm, 157, rfl⟩
abbrev main_v21 : Ref sig .tc := ⟨.hbm, 158, rfl⟩
abbrev main_v22 : Ref sig .tc := ⟨.hbm, 159, rfl⟩
abbrev main_c_8 : Ref sig .tc := ⟨.hbm, 160, rfl⟩
abbrev main_v23 : Ref sig .tc := ⟨.hbm, 161, rfl⟩
abbrev main_v24 : Ref sig .tc := ⟨.hbm, 162, rfl⟩
abbrev main_c_9 : Ref sig .tc := ⟨.hbm, 163, rfl⟩
abbrev main_v25 : Ref sig .tc := ⟨.hbm, 164, rfl⟩
abbrev main_v26 : Ref sig .tc := ⟨.hbm, 165, rfl⟩
abbrev main_v27 : Ref sig .tc := ⟨.hbm, 166, rfl⟩
abbrev main_v28 : Ref sig .tc := ⟨.hbm, 167, rfl⟩
abbrev main_v29 : Ref sig .tc := ⟨.hbm, 168, rfl⟩
abbrev main_c_10 : Ref sig .tc := ⟨.hbm, 169, rfl⟩
abbrev main_v30 : Ref sig .tc := ⟨.hbm, 170, rfl⟩
abbrev main_v31 : Ref sig .tc := ⟨.hbm, 171, rfl⟩
abbrev main_c_11 : Ref sig .tc := ⟨.hbm, 172, rfl⟩
abbrev main_v32 : Ref sig .tc := ⟨.hbm, 173, rfl⟩
abbrev main_v33 : Ref sig .tc := ⟨.hbm, 174, rfl⟩
abbrev main_c_12 : Ref sig .tc := ⟨.hbm, 175, rfl⟩
abbrev main_v34 : Ref sig .tc := ⟨.hbm, 176, rfl⟩
abbrev main_v35 : Ref sig .tc := ⟨.hbm, 177, rfl⟩
abbrev main_v36 : Ref sig .tc := ⟨.hbm, 178, rfl⟩
abbrev main_v37 : Ref sig .tc := ⟨.hbm, 179, rfl⟩
abbrev main_v38 : Ref sig .tc := ⟨.hbm, 180, rfl⟩
abbrev main_v39 : Ref sig .tc := ⟨.hbm, 181, rfl⟩
abbrev main_v40 : Ref sig .tc := ⟨.hbm, 182, rfl⟩
abbrev main_v41 : Ref sig .tc := ⟨.hbm, 183, rfl⟩
abbrev main_v42 : Ref sig .tc := ⟨.hbm, 184, rfl⟩
abbrev main_v43 : Ref sig .tc := ⟨.hbm, 185, rfl⟩
abbrev main_v44 : Ref sig .tc := ⟨.hbm, 186, rfl⟩
abbrev main_call4_cst : Ref sig .tc := ⟨.hbm, 187, rfl⟩
abbrev main_call4_v0 : Ref sig .tc := ⟨.hbm, 188, rfl⟩
abbrev main_v45 : Ref sig .tc := ⟨.hbm, 189, rfl⟩
abbrev main_v46 : Ref sig .tc := ⟨.hbm, 190, rfl⟩
abbrev main_v47 : Ref sig .tc := ⟨.hbm, 191, rfl⟩
abbrev main_v48 : Ref sig .tc := ⟨.hbm, 192, rfl⟩
abbrev main_v49 : Ref sig .tc := ⟨.hbm, 193, rfl⟩
abbrev main_v50 : Ref sig .tc := ⟨.hbm, 194, rfl⟩
abbrev main_v51 : Ref sig .tc := ⟨.hbm, 195, rfl⟩
abbrev main_cst_13 : Ref sig .tc := ⟨.hbm, 196, rfl⟩
abbrev main_call5_v0 : Ref sig .tc := ⟨.hbm, 197, rfl⟩
abbrev main_call5_v1 : Ref sig .tc := ⟨.hbm, 198, rfl⟩
abbrev main_v52 : Ref sig .tc := ⟨.hbm, 199, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 512#32, 1#32⟩
-- ==== Proof.Lstm.lean ====
module
public import Idealize.ShloMosaic.Lib.Pointwise
@[expose] public section

/-! The mathematics both programs compute, on plain functions of indices: one direction of the LSTM and the span score. -/

set_option maxRecDepth 16384

noncomputable section

namespace Cert.Lstm

open Idealize.ShloMosaic Idealize.ShloMosaic.Pointwise

/-- Gate `r` before its activation: the input's product, the state's product and the bias. -/
def pre (Wih : Fin 1536 → Fin 1536 → EReal) (Whh : Fin 1536 → Fin 384 → EReal) (b : Fin 1536 → EReal)
    (x : Fin 1536 → EReal) (h : Fin 384 → EReal) (r : Fin 1536) : EReal :=
  ∑ k, Wih r k * x k + ∑ k, Whh r k * h k + b r

/-- The new cell state of the gates `p` and the old cell state: the forget gate keeps, the input gate admits. -/
def cell (p : Fin 1536 → EReal) (c : Fin 384 → EReal) (l : Fin 384) : EReal :=
  Ideal.logistic (p ⟨384 + l, by omega⟩) * c l + Ideal.logistic (p ⟨l, by omega⟩) * Ideal.tanh (p ⟨768 + l, by omega⟩)

/-- The new hidden state: the output gate times the squashed new cell state. -/
def hid (p : Fin 1536 → EReal) (c : Fin 384 → EReal) (l : Fin 384) : EReal :=
  Ideal.logistic (p ⟨1152 + l, by omega⟩) * Ideal.tanh (cell p c l)

/-- The hidden and the cell state after `k` rows of `xs`, from zeros. -/
def run (Wih : Fin 1536 → Fin 1536 → EReal) (Whh : Fin 1536 → Fin 384 → EReal) (b : Fin 1536 → EReal)
    (xs : ℕ → Fin 1536 → EReal) : ℕ → (Fin 384 → EReal) × (Fin 384 → EReal)
  | 0 => (fun _ => 0, fun _ => 0)
  | k + 1 =>
    (hid (pre Wih Whh b (xs k) (run Wih Whh b xs k).1) (run Wih Whh b xs k).2,
      cell (pre Wih Whh b (xs k) (run Wih Whh b xs k).1) (run Wih Whh b xs k).2)

/-- The states of both directions side by side: at position `t` the forward one has read `t + 1` rows, the backward
    one `512 - t`. -/
def states (f b : ℕ → (Fin 384 → EReal) × (Fin 384 → EReal)) (t : Fin 512) (k : Fin 768) : EReal :=
  if h : k.val < 384 then (f (t.val + 1)).1 ⟨k.val, h⟩ else (b (512 - t.val)).1 ⟨k.val - 384, by omega⟩

/-- The score of the span from `i` to `i + j`: the scorer on both ends' states, zero past the sequence's end. -/
def score (e : Fin 512 → Fin 768 → EReal) (Wf : Fin 384 → Fin 1536 → EReal) (bf Wo : Fin 384 → EReal) (bo : EReal)
    (i : Fin 512) (j : Fin 30) : EReal :=
  if h : i.val + j.val < 512 then
    ∑ l, max (∑ k : Fin 768, e i k * Wf l ⟨k, by omega⟩ + ∑ k : Fin 768, e ⟨i + j, h⟩ k * Wf l ⟨768 + k, by omega⟩ + bf l) 0
      * Wo l + bo
  else 0

/-- Row `t` of the input, counted from its start. -/
def ahead (x : Fin 512 → Fin 1536 → EReal) (t : ℕ) : Fin 1536 → EReal := x (if h : t < 512 then ⟨t, h⟩ else 0)

/-- Row `t` of the input, counted from its end. -/
def behind (x : Fin 512 → Fin 1536 → EReal) (t : ℕ) : Fin 1536 → EReal := ahead x (511 - t)

/-- The result at `(i, j)` of the thirteen arguments, biases of one direction summed. -/
def spans (x : Fin 512 → Fin 1536 → EReal) (Wihf Wihb : Fin 1536 → Fin 1536 → EReal) (Whhf Whhb : Fin 1536 → Fin 384 → EReal)
    (bf bb : Fin 1536 → EReal) (W1 : Fin 384 → Fin 1536 → EReal) (b1 W2 : Fin 384 → EReal) (b2 : EReal) : Fin 512 → Fin 30 → EReal :=
  score (states (run Wihf Whhf bf (ahead x)) (run Wihb Whhb bb (behind x))) W1 b1 W2 b2

/-- The result at `(i, j)` of the thirteen arguments in the problem's order. -/
def spansOf (a0 : FVec Ideal ⟨2, ![512, 1536]⟩ .f32) (a1 : FVec Ideal ⟨2, ![1536, 1536]⟩ .f32) (a2 : FVec Ideal ⟨2, ![1536, 384]⟩ .f32)
    (a3 a4 : FVec Ideal ⟨1, ![1536]⟩ .f32) (a5 : FVec Ideal ⟨2, ![1536, 1536]⟩ .f32) (a6 : FVec Ideal ⟨2, ![1536, 384]⟩ .f32)
    (a7 a8 : FVec Ideal ⟨1, ![1536]⟩ .f32) (a9 : FVec Ideal ⟨2, ![384, 1536]⟩ .f32) (a10 : FVec Ideal ⟨1, ![384]⟩ .f32)
    (a11 : FVec Ideal ⟨2, ![1, 384]⟩ .f32) (a12 : FVec Ideal ⟨1, ![1]⟩ .f32) : Fin 512 → Fin 30 → EReal :=
  spans (fun t r => a0 (ix2 t r)) (fun r k => a1 (ix2 r k)) (fun r k => a5 (ix2 r k)) (fun r k => a2 (ix2 r k))
    (fun r k => a6 (ix2 r k)) (fun r => a3 (ix1 r) + a4 (ix1 r)) (fun r => a7 (ix1 r) + a8 (ix1 r))
    (fun l k => a9 (ix2 l k)) (fun l => a10 (ix1 l)) (fun l => a11 (ix2 0 l)) (a12 (ix1 0))

end Cert.Lstm

end
-- ==== Proof.KernelLoop.lean ====
/- The recurrence of the kernel's one loop: what a trip yields and stores, what the loop carries before trip `k`, and what
   the table of hidden states reads after the loop. -/
module

public import proofs.«01_k».proof.Proof.Gen.KernelIdeal.Loops
public import Idealize.ShloMosaic.Lib.Pipeline.FrameBody
public import Idealize.ShloMosaic.Lib.Pipeline.Value
public import Idealize.ShloMosaic.Lib.Pointwise

@[expose] public section

set_option maxRecDepth 16384

noncomputable section

namespace Cert.KernelIdeal.Run

open Idealize.ShloMosaic Idealize.ShloMosaic.TcCoe Idealize.ShloMosaic.Pointwise
open Cert.KernelIdeal.Gen

variable {F : FTy → Type} [FloatOps F]

/-! ## The loop's trip count and the rows a trip names -/

/-- The loop makes 512 trips. -/
theorem trips_eq : k0_t1_loop.trips = 512 := by decide +kernel

/-- Trip `k` reads row `k` of the forward projections. -/
theorem off1_eq : ∀ k : Fin k0_t1_loop.trips, k0_off1 k = ![k.val, 0] := by decide +kernel
/-- Trip `k` reads row `511 - k` of the backward projections. -/
theorem off2_eq : ∀ k : Fin k0_t1_loop.trips, k0_off2 k = ![511 - k.val, 0] := by decide +kernel
/-- Trip `k` stores the forward hidden state at row `k`, columns from 0. -/
theorem off3_eq : ∀ k : Fin k0_t1_loop.trips, k0_off3 k = ![k.val, 0] := by decide +kernel
/-- Trip `k` stores the backward hidden state at row `511 - k`, columns from 384. -/
theorem off4_eq : ∀ k : Fin k0_t1_loop.trips, k0_off4 k = ![511 - k.val, 384] := by decide +kernel

/-! ## The recurrence -/

/-- Row `t` of a 512-row matrix, as a matrix of one row (row 0 where there is no row `t`). -/
def rowOf (X : Vec F S512x1536 .f32) (t : ℕ) : Vec F S1x1536 .f32 :=
  fun y => X (ix2 (if h : t < 512 then ⟨t, h⟩ else 0) (y 1))

/-- One direction's recurrence: the hidden and the cell row after `k` steps, the `k`-th step reading the projected input
    row `row k`, with recurrent weights `W` of the gates i, f, o and `Wg` of the gate g. -/
def scanK (W : Vec F S384x1152 .fp8e4m3) (Wg : Vec F S384x384 .bf16) (row : ℕ → Vec F S1x1536 .f32) :
    ℕ → FVec F S1x384 .f32 × FVec F S1x384 .f32
  | 0 => (k0_pay20, k0_pay20)
  | k + 1 => (k0_pay5 (scanK W Wg row k).1 (scanK W Wg row k).2 (row k) W Wg,
      k0_pay4 (scanK W Wg row k).1 (scanK W Wg row k).2 (row k) W Wg)

/-- The table of hidden states: row `t` holds the forward state after `t + 1` steps and the backward state after
    `512 - t` steps, side by side. -/
def tableK (f b : ℕ → FVec F S1x384 .f32 × FVec F S1x384 .f32) : Vec F S512x768 .f32 :=
  fun y => if h : (y 1).val < 384 then (f ((y 0).val + 1)).1 (ix2 0 ⟨(y 1).val, h⟩)
    else (b (512 - (y 0).val)).1 (ix2 0 ⟨(y 1).val - 384, by have h1 : (y 1).val < 768 := (y 1).isLt; omega⟩)

/-- A one-row load at row `t` reads that row. -/
theorem readRow {κ : Kind} {sp : Space} (v : View sig κ sp S512x1536 .f32) (X : v.ty.Contents (Elt F)) (off : Fin 2 → ℕ)
    (inb : ∀ a, off a + S1x1536.size a ≤ S512x1536.size a) (t : ℕ) (ht : t < 512) (h : off = ![t, 0]) :
    v.readAt (Elt F) (Rect.unit (s := S512x1536) off S1x1536.size inb).toLoadRect X = rowOf (v.read (Elt F) X) t := by
  subst h
  funext y
  show v.read (Elt F) X _ = v.read (Elt F) X _
  congr 1
  funext a
  refine Fin.ext ?_
  have h0 : (y 0).val < 1 := (y 0).isLt
  fin_cases a
  · show t + 1 * (y 0).val = _
    simp [ix2, ht]; omega
  · show 0 + 1 * (y 1).val = (y 1).val
    omega

/-- A load of a whole matrix reads it. -/
theorem readWhole {κ : Kind} {sp : Space} {m n : ℕ} {e : EltTy} (v : View sig κ sp ⟨2, ![m, n]⟩ e) (X : v.ty.Contents (Elt F))
    (inb : ∀ a, (![0, 0] : Fin 2 → ℕ) a + (⟨2, ![m, n]⟩ : Shape).size a ≤ (⟨2, ![m, n]⟩ : Shape).size a) :
    v.readAt (Elt F) (Rect.unit (s := ⟨2, ![m, n]⟩) ![0, 0] (⟨2, ![m, n]⟩ : Shape).size inb).toLoadRect X = v.read (Elt F) X := by
  funext y
  show v.read (Elt F) X _ = v.read (Elt F) X _
  congr 1
  funext a
  refine Fin.ext ?_
  fin_cases a
  · show 0 + 1 * (y 0).val = (y 0).val
    omega
  · show 0 + 1 * (y 1).val = (y 1).val
    omega

/-- The table of hidden states at a stored backward row. -/
theorem tableK_backward (f b : ℕ → FVec F S1x384 .f32 × FVec F S1x384 .f32) (k : ℕ) (hk : k < 512) {off : Fin 2 → ℕ}
    (inb : ∀ a, off a + S1x384.size a ≤ S512x768.size a) (h : off = ![511 - k, 384])
    (x : (Rect.unit (s := S512x768) off S1x384.size inb).shape.Idx) :
    tableK f b ((Rect.unit (s := S512x768) off S1x384.size inb).emb x) =
      shapeCast S1x384 (b (k + 1)).1 shapeCasts_S1x384_S1x384 x := by
  subst h
  have h0 : (x 0).val < 1 := (x 0).isLt
  have e0 : ((Rect.unit (s := S512x768) ![511 - k, 384] S1x384.size inb).emb x 0).val = 511 - k := by
    show 511 - k + 1 * (x 0).val = _
    omega
  have e1 : ((Rect.unit (s := S512x768) ![511 - k, 384] S1x384.size inb).emb x 1).val = 384 + (x 1).val := by
    show 384 + 1 * (x 1).val = _
    omega
  rw [shapeCast_self]
  unfold tableK
  rw [dif_neg (by omega)]
  have e2 : 512 - ((Rect.unit (s := S512x768) ![511 - k, 384] S1x384.size inb).emb x 0).val = k + 1 := by omega
  rw [e2]
  refine congrArg (b (k + 1)).1 (funext fun a => Fin.ext ?_)
  fin_cases a
  · show 0 = (x 0).val
    omega
  · show ((Rect.unit (s := S512x768) ![511 - k, 384] S1x384.size inb).emb x 1).val - 384 = (x 1).val
    omega

/-- The table of hidden states at a stored forward row. -/
theorem tableK_forward (f b : ℕ → FVec F S1x384 .f32 × FVec F S1x384 .f32) (k : ℕ) (hk : k < 512) {off : Fin 2 → ℕ}
    (inb : ∀ a, off a + S1x384.size a ≤ S512x768.size a) (h : off = ![k, 0])
    (x : (Rect.unit (s := S512x768) off S1x384.size inb).shape.Idx) :
    tableK f b ((Rect.unit (s := S512x768) off S1x384.size inb).emb x) =
      shapeCast S1x384 (f (k + 1)).1 shapeCasts_S1x384_S1x384 x := by
  subst h
  have h0 : (x 0).val < 1 := (x 0).isLt
  have h1 : (x 1).val < 384 := (x 1).isLt
  have e0 : ((Rect.unit (s := S512x768) ![k, 0] S1x384.size inb).emb x 0).val = k := by
    show k + 1 * (x 0).val = _
    omega
  have e1 : ((Rect.unit (s := S512x768) ![k, 0] S1x384.size inb).emb x 1).val = (x 1).val := by
    show 0 + 1 * (x 1).val = _
    omega
  rw [shapeCast_self]
  unfold tableK
  rw [dif_pos (by omega), e0]
  refine congrArg (f (k + 1)).1 (funext fun a => Fin.ext ?_)
  fin_cases a
  · show 0 = (x 0).val
    omega
  · exact e1

section Loop

variable (c : Dev nD) (arg0 : Memref sig .tc .vmem S512x1536 .f32) (harg0 : arg0.IsWhole) (arg1 : Memref sig .tc .vmem S1536x1536 .f32) (harg1 : arg1.IsWhole) (arg2 : Memref sig .tc .vmem S1536x1536 .f32) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x384 .f32) (harg5 : arg5.IsWhole) (arg6 : Memref sig .tc .vmem S1536x384 .f32) (harg6 : arg6.IsWhole) (arg7 : Memref sig .tc .vmem S384x1536 .f32) (harg7 : arg7.IsWhole) (arg8 : Memref sig .tc .vmem S1x384 .f32) (harg8 : arg8.IsWhole) (arg9 : Memref sig .tc .vmem S384x1 .f32) (harg9 : arg9.IsWhole) (arg10 : Memref sig .tc .vmem S1x1 .f32) (harg10 : arg10.IsWhole) (arg11 : Memref sig .tc .vmem S512x30 .f32) (harg11 : arg11.IsWhole) (arg12 : Memref sig .tc .vmem S512x1536 .f32) (harg12 : arg12.IsWhole) (arg13 : Memref sig .tc .vmem S512x1536 .f32) (harg13 : arg13.IsWhole) (arg14 : Memref sig .tc .vmem S512x768 .f32) (harg14 : arg14.IsWhole) (arg15 : Memref sig .tc .vmem S544x384 .f32) (harg15 : arg15.IsWhole) (arg16 : Memref sig .tc .vmem S384x1152 .fp8e4m3) (harg16 : arg16.IsWhole) (arg17 : Memref sig .tc .vmem S384x1152 .fp8e4m3) (harg17 : arg17.IsWhole) (arg18 : Memref sig .tc .vmem S384x384 .bf16) (harg18 : arg18.IsWhole) (arg19 : Memref sig .tc .vmem S384x384 .bf16) (harg19 : arg19.IsWhole)
  (X12 : BufTy.Contents (Elt F) arg12.view.ty) (X13 : BufTy.Contents (Elt F) arg13.view.ty)
  (X16 : BufTy.Contents (Elt F) arg16.view.ty) (X17 : BufTy.Contents (Elt F) arg17.view.ty)
  (X18 : BufTy.Contents (Elt F) arg18.view.ty) (X19 : BufTy.Contents (Elt F) arg19.view.ty)

/-- The forward recurrence over what the scratch buffers hold. -/
def fwd : ℕ → FVec F S1x384 .f32 × FVec F S1x384 .f32 :=
  scanK (arg16.view.read (Elt F) X16) (arg18.view.read (Elt F) X18) (rowOf (arg12.view.read (Elt F) X12))

/-- The backward recurrence over what the scratch buffers hold: its `k`-th step reads row `511 - k`. -/
def bwd : ℕ → FVec F S1x384 .f32 × FVec F S1x384 .f32 :=
  scanK (arg17.view.read (Elt F) X17) (arg19.view.read (Elt F) X19) (fun k => rowOf (arg13.view.read (Elt F) X13) (511 - k))

/-- The state of the loop before trip `k`: what it carries, and the pieces stored so far. -/
abbrev stK (k : ℕ) :=
  st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19
    (k0_pay20, k0_pay20, k0_pay20, k0_pay20) k

/-- What trip `k` yields from the carried rows. -/
theorem trip_yield (k : Fin k0_t1_loop.trips) (acc : FVec F S1x384 .f32 × FVec F S1x384 .f32 × FVec F S1x384 .f32 × FVec F S1x384 .f32) :
    tripR_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k acc =
      (k0_pay5 acc.1 acc.2.1 (arg12.view.readAt (Elt F) (Rect.unit (s := S512x1536) (k0_off1 k) S1x1536.size (k0_off1_inb k)).toLoadRect X12)
          (arg16.view.readAt (Elt F) (Rect.unit (s := S384x1152) ![0, 0] S384x1152.size inb_S384x1152_S384x1152_0_0).toLoadRect X16)
          (arg18.view.readAt (Elt F) (Rect.unit (s := S384x384) ![0, 0] S384x384.size inb_S384x384_S384x384_0_0).toLoadRect X18),
        k0_pay4 acc.1 acc.2.1 (arg12.view.readAt (Elt F) (Rect.unit (s := S512x1536) (k0_off1 k) S1x1536.size (k0_off1_inb k)).toLoadRect X12)
          (arg16.view.readAt (Elt F) (Rect.unit (s := S384x1152) ![0, 0] S384x1152.size inb_S384x1152_S384x1152_0_0).toLoadRect X16)
          (arg18.view.readAt (Elt F) (Rect.unit (s := S384x384) ![0, 0] S384x384.size inb_S384x384_S384x384_0_0).toLoadRect X18),
        k0_pay5 acc.2.2.1 acc.2.2.2 (arg13.view.readAt (Elt F) (Rect.unit (s := S512x1536) (k0_off2 k) S1x1536.size (k0_off2_inb k)).toLoadRect X13)
          (arg17.view.readAt (Elt F) (Rect.unit (s := S384x1152) ![0, 0] S384x1152.size inb_S384x1152_S384x1152_0_0).toLoadRect X17)
          (arg19.view.readAt (Elt F) (Rect.unit (s := S384x384) ![0, 0] S384x384.size inb_S384x384_S384x384_0_0).toLoadRect X19),
        k0_pay4 acc.2.2.1 acc.2.2.2 (arg13.view.readAt (Elt F) (Rect.unit (s := S512x1536) (k0_off2 k) S1x1536.size (k0_off2_inb k)).toLoadRect X13)
          (arg17.view.readAt (Elt F) (Rect.unit (s := S384x1152) ![0, 0] S384x1152.size inb_S384x1152_S384x1152_0_0).toLoadRect X17)
          (arg19.view.readAt (Elt F) (Rect.unit (s := S384x384) ![0, 0] S384x384.size inb_S384x384_S384x384_0_0).toLoadRect X19)) := by
  unfold tripR_k0_t1 trip_k0_t1; rfl

/-- What trip `k` stores: the two hidden rows it yields. -/
theorem trip_pieces (k : Fin k0_t1_loop.trips) (acc : FVec F S1x384 .f32 × FVec F S1x384 .f32 × FVec F S1x384 .f32 × FVec F S1x384 .f32) :
    tripL_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k acc =
      [⟨Rect.unit (s := S512x768) (k0_off4 k) S1x384.size (k0_off4_inb k),
          shapeCast S1x384 (tripR_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k acc).2.2.1 shapeCasts_S1x384_S1x384⟩,
        ⟨Rect.unit (s := S512x768) (k0_off3 k) S1x384.size (k0_off3_inb k),
          shapeCast S1x384 (tripR_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k acc).1 shapeCasts_S1x384_S1x384⟩] := by
  unfold tripL_k0_t1 tripR_k0_t1 trip_k0_t1; rfl

/-- Before trip `k` the loop carries both recurrences' rows after `k` steps. -/
theorem state_carried : ∀ k : ℕ, k ≤ 512 → (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k).1 =
    ((fwd arg12 arg16 arg18 X12 X16 X18 k).1, (fwd arg12 arg16 arg18 X12 X16 X18 k).2, (bwd arg13 arg17 arg19 X13 X17 X19 k).1, (bwd arg13 arg17 arg19 X13 X17 X19 k).2)
  | 0, _ => rfl
  | k + 1, hk => by
    have hlt : k < k0_t1_loop.trips := by rw [trips_eq]; omega
    have ih := state_carried k (by omega)
    show (st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 _ ((⟨k, hlt⟩ : Fin k0_t1_loop.trips).val + 1)).1 = _
    rw [st_k0_t1_succ]
    show tripR_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 ⟨k, hlt⟩ (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k).1 = _
    rw [ih, trip_yield]
    rw [readRow arg12.view X12 _ _ k (by omega) (off1_eq ⟨k, hlt⟩), readRow arg13.view X13 _ _ (511 - k) (by omega) (off2_eq ⟨k, hlt⟩),
      readWhole arg16.view X16, readWhole arg17.view X17, readWhole arg18.view X18, readWhole arg19.view X19]
    rfl

/-- The pieces stored before trip `k + 1`: trip `k`'s two, then the earlier ones. -/
theorem state_pieces (k : ℕ) (hk : k < 512) (hlt : k < k0_t1_loop.trips) : (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 (k + 1)).2 =
    [(⟨Rect.unit (s := S512x768) (k0_off4 ⟨k, hlt⟩) S1x384.size (k0_off4_inb ⟨k, hlt⟩),
        shapeCast S1x384 (bwd arg13 arg17 arg19 X13 X17 X19 (k + 1)).1 shapeCasts_S1x384_S1x384⟩ : View.Piece (Elt F) S512x768 .f32),
      ⟨Rect.unit (s := S512x768) (k0_off3 ⟨k, hlt⟩) S1x384.size (k0_off3_inb ⟨k, hlt⟩),
        shapeCast S1x384 (fwd arg12 arg16 arg18 X12 X16 X18 (k + 1)).1 shapeCasts_S1x384_S1x384⟩] ++ (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k).2 := by
  have hc := state_carried c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 (k + 1) (by omega)
  have e : stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 (k + 1) = _ := st_k0_t1_succ (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 (k0_pay20, k0_pay20, k0_pay20, k0_pay20) ⟨k, hlt⟩
  have hR : tripR_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 ⟨k, hlt⟩ (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k).1 = (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 (k + 1)).1 := by rw [e]
  rw [e]
  show tripL_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 ⟨k, hlt⟩ (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k).1 ++ _ = _
  rw [trip_pieces, hR, hc]

/-- Every piece stored before trip `k` holds its part of the table of hidden states. -/
theorem pieces_table : ∀ k : ℕ, k ≤ 512 → ∀ p ∈ (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k).2, ∀ x : p.1.shape.Idx,
    p.2 x = tableK (fwd arg12 arg16 arg18 X12 X16 X18) (bwd arg13 arg17 arg19 X13 X17 X19) (p.1.emb x)
  | 0, _ => by intro p hp; exact absurd hp List.not_mem_nil
  | k + 1, hk => by
    have hlt : k < k0_t1_loop.trips := by rw [trips_eq]; omega
    rw [state_pieces c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k (by omega) hlt]
    intro p hp
    rcases List.mem_append.mp hp with hp | hp
    · rcases List.mem_cons.mp hp with rfl | hp
      · intro x
        exact (tableK_backward (fwd arg12 arg16 arg18 X12 X16 X18) (bwd arg13 arg17 arg19 X13 X17 X19) k (by omega) (k0_off4_inb ⟨k, hlt⟩) (off4_eq ⟨k, hlt⟩) x).symm
      · rcases List.mem_singleton.mp hp with rfl
        intro x
        exact (tableK_forward (fwd arg12 arg16 arg18 X12 X16 X18) (bwd arg13 arg17 arg19 X13 X17 X19) k (by omega) (k0_off3_inb ⟨k, hlt⟩) (off3_eq ⟨k, hlt⟩) x).symm
    · exact pieces_table k (by omega) p hp

/-- Before trip `k` the pieces cover the forward half of the rows below `k` and the backward half of the rows from
    `512 - k`. -/
theorem pieces_cover (y : S512x768.Idx) : ∀ k : ℕ, k ≤ 512 → ((y 1).val < 384 ∧ (y 0).val < k ∨ 384 ≤ (y 1).val ∧ 512 - k ≤ (y 0).val) →
    ∃ p ∈ (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k).2, y ∈ p.1.set
  | 0, _, h => by have h0 : (y 0).val < 512 := (y 0).isLt; omega
  | k + 1, hk, h => by
    have h0 : (y 0).val < 512 := (y 0).isLt
    have h1 : (y 1).val < 768 := (y 1).isLt
    have hlt : k < k0_t1_loop.trips := by rw [trips_eq]; omega
    rw [state_pieces c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 k (by omega) hlt]
    by_cases hb : 384 ≤ (y 1).val ∧ (y 0).val = 511 - k
    · refine ⟨_, List.mem_append_left _ (List.mem_cons_self), ?_⟩
      rw [Rect.mem_set_unit, off4_eq]
      intro a; fin_cases a
      · show 511 - k ≤ (y 0).val ∧ (y 0).val < 511 - k + 1
        omega
      · show 384 ≤ (y 1).val ∧ (y 1).val < 384 + 384
        omega
    by_cases hf : (y 1).val < 384 ∧ (y 0).val = k
    · refine ⟨_, List.mem_append_left _ (List.mem_cons_of_mem _ List.mem_cons_self), ?_⟩
      rw [Rect.mem_set_unit, off3_eq]
      intro a; fin_cases a
      · show k ≤ (y 0).val ∧ (y 0).val < k + 1
        omega
      · show 0 ≤ (y 1).val ∧ (y 1).val < 0 + 384
        omega
    · obtain ⟨p, hp, hy⟩ := pieces_cover y k (by omega) (by omega)
      exact ⟨p, List.mem_append_right _ hp, hy⟩

/-- After the loop the scratch of hidden states reads the table, whatever it held before. -/
theorem table_read (f : BufTy.Contents (Elt F) arg14.view.ty) :
    arg14.view.read (Elt F) (arg14.view.writes (Elt F) f (stK c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 512).2) = tableK (fwd arg12 arg16 arg18 X12 X16 X18) (bwd arg13 arg17 arg19 X13 X17 X19) := by
  funext y
  refine View.read_writes_apply_of_pieces arg14.view f _ _ (pieces_table c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 512 le_rfl) y (pieces_cover c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X13 X16 X17 X18 X19 y 512 le_rfl ?_)
  have h0 : (y 0).val < 512 := (y 0).isLt
  omega

end Loop

end Cert.KernelIdeal.Run

end
-- ==== Proof.KernelOut.lean ====
/- What the kernel's body leaves in its result, as a function of its eleven inputs: the pieces it stores column by column,
   read back over what the scratch buffers hold. -/
module

public import proofs.«01_k».proof.Proof.KernelLoop
public import Idealize.ShloMosaic.Lib.WritesUnit

@[expose] public section

set_option maxRecDepth 16384

noncomputable section

namespace Cert.KernelIdeal.Run

open Idealize.ShloMosaic Idealize.ShloMosaic.TcCoe Idealize.ShloMosaic.Pointwise
open Cert.KernelIdeal.Gen

variable {F : FTy → Type} [FloatOps F]

/-! ## Parts of a matrix -/

section Parts

variable {m n h w : ℕ} {e : EltTy}

/-- The `h` by `w` block of a matrix at row `a`, column `b`. -/
def block (a b : ℕ) (inb : ∀ i, (![a, b] : Fin 2 → ℕ) i + (![h, w] : Fin 2 → ℕ) i ≤ (![m, n] : Fin 2 → ℕ) i)
    (M : Vec F ⟨2, ![m, n]⟩ e) : Vec F ⟨2, ![h, w]⟩ e :=
  fun y => M (ix2 ⟨a + (y 0).val, by have := inb 0; have h0 : (y 0).val < h := (y 0).isLt; simp at this; omega⟩
    ⟨b + (y 1).val, by have := inb 1; have h1 : (y 1).val < w := (y 1).isLt; simp at this; omega⟩)

/-- A load of a block reads the block. -/
theorem readBlock {κ : Kind} {sp : Space} (v : View sig κ sp ⟨2, ![m, n]⟩ e) (X : v.ty.Contents (Elt F)) (a b : ℕ)
    (inb : ∀ i, (![a, b] : Fin 2 → ℕ) i + (![h, w] : Fin 2 → ℕ) i ≤ (![m, n] : Fin 2 → ℕ) i) :
    v.readAt (Elt F) (Rect.unit (s := ⟨2, ![m, n]⟩) ![a, b] ![h, w] inb).toLoadRect X = block a b inb (v.read (Elt F) X) := by
  funext y
  show v.read (Elt F) X _ = v.read (Elt F) X _
  refine congrArg (v.read (Elt F) X) (funext fun i => Fin.ext ?_)
  fin_cases i
  · show a + 1 * (y 0).val = a + (y 0).val
    omega
  · show b + 1 * (y 1).val = b + (y 1).val
    omega

/-- The block that is the whole matrix. -/
theorem block_whole (inb : ∀ i, (![0, 0] : Fin 2 → ℕ) i + (![m, n] : Fin 2 → ℕ) i ≤ (![m, n] : Fin 2 → ℕ) i)
    (M : Vec F ⟨2, ![m, n]⟩ e) : block 0 0 inb M = M := by
  funext y
  refine congrArg M (funext fun i => Fin.ext ?_)
  fin_cases i
  · exact Nat.zero_add _
  · exact Nat.zero_add _

/-- Two matrices side by side. -/
def beside {p : ℕ} (hp : p ≤ n) (A : Vec F ⟨2, ![m, p]⟩ e) (B : Vec F ⟨2, ![m, n - p]⟩ e) : Vec F ⟨2, ![m, n]⟩ e :=
  fun y => if h : (y 1).val < p then A (ix2 (y 0) ⟨(y 1).val, h⟩)
    else B (ix2 (y 0) ⟨(y 1).val - p, by have h1 : (y 1).val < n := (y 1).isLt; omega⟩)

/-- Two matrices one over the other. -/
def over {p : ℕ} (hp : p ≤ m) (A : Vec F ⟨2, ![p, n]⟩ e) (B : Vec F ⟨2, ![m - p, n]⟩ e) : Vec F ⟨2, ![m, n]⟩ e :=
  fun y => if h : (y 0).val < p then A (ix2 ⟨(y 0).val, h⟩ (y 1))
    else B (ix2 ⟨(y 0).val - p, by have h1 : (y 0).val < m := (y 0).isLt; omega⟩ (y 1))

variable {κ : Kind} {sp : Space} (v : View sig κ sp ⟨2, ![m, n]⟩ e) (f : v.ty.Contents (Elt F))

/-- A buffer stored whole reads what was stored. -/
theorem read_stored (inb : ∀ i, (![0, 0] : Fin 2 → ℕ) i + (![m, n] : Fin 2 → ℕ) i ≤ (![m, n] : Fin 2 → ℕ) i) (A : Vec F ⟨2, ![m, n]⟩ e) :
    v.read (Elt F) (v.writes (Elt F) f [⟨Rect.unit (s := ⟨2, ![m, n]⟩) ![0, 0] ![m, n] inb, A⟩]) = A := by
  funext y
  refine View.read_writes_cons_unit_of_mem v f inb A [] y y rfl fun i => ?_
  fin_cases i
  · exact (Nat.zero_add _).symm
  · exact (Nat.zero_add _).symm

/-- A buffer stored in two parts of columns reads the parts side by side. -/
theorem read_beside {p : ℕ} (hp : p ≤ n)
    (inbB : ∀ i, (![0, p] : Fin 2 → ℕ) i + (![m, n - p] : Fin 2 → ℕ) i ≤ (![m, n] : Fin 2 → ℕ) i)
    (inbA : ∀ i, (![0, 0] : Fin 2 → ℕ) i + (![m, p] : Fin 2 → ℕ) i ≤ (![m, n] : Fin 2 → ℕ) i)
    (A : Vec F ⟨2, ![m, p]⟩ e) (B : Vec F ⟨2, ![m, n - p]⟩ e) :
    v.read (Elt F) (v.writes (Elt F) f [⟨Rect.unit (s := ⟨2, ![m, n]⟩) ![0, p] ![m, n - p] inbB, B⟩,
      ⟨Rect.unit (s := ⟨2, ![m, n]⟩) ![0, 0] ![m, p] inbA, A⟩]) = beside hp A B := by
  funext y
  have h1 : (y 1).val < n := (y 1).isLt
  unfold beside
  by_cases h : (y 1).val < p
  · rw [dif_pos h, View.read_writes_cons_unit_of_not_mem v f inbB B _ y rfl 1 (Or.inl h)]
    refine View.read_writes_cons_unit_of_mem v f inbA A [] y (ix2 (y 0) ⟨(y 1).val, h⟩) rfl fun i => ?_
    fin_cases i
    · exact (Nat.zero_add _).symm
    · exact (Nat.zero_add _).symm
  · rw [dif_neg h]
    refine View.read_writes_cons_unit_of_mem v f inbB B _ y (ix2 (y 0) ⟨(y 1).val - p, by omega⟩) rfl fun i => ?_
    fin_cases i
    · exact (Nat.zero_add _).symm
    · show (y 1).val = p + ((y 1).val - p)
      omega

/-- A buffer stored in two parts of rows reads one part over the other. -/
theorem read_over {p : ℕ} (hp : p ≤ m)
    (inbB : ∀ i, (![p, 0] : Fin 2 → ℕ) i + (![m - p, n] : Fin 2 → ℕ) i ≤ (![m, n] : Fin 2 → ℕ) i)
    (inbA : ∀ i, (![0, 0] : Fin 2 → ℕ) i + (![p, n] : Fin 2 → ℕ) i ≤ (![m, n] : Fin 2 → ℕ) i)
    (A : Vec F ⟨2, ![p, n]⟩ e) (B : Vec F ⟨2, ![m - p, n]⟩ e) :
    v.read (Elt F) (v.writes (Elt F) f [⟨Rect.unit (s := ⟨2, ![m, n]⟩) ![p, 0] ![m - p, n] inbB, B⟩,
      ⟨Rect.unit (s := ⟨2, ![m, n]⟩) ![0, 0] ![p, n] inbA, A⟩]) = over hp A B := by
  funext y
  have h1 : (y 0).val < m := (y 0).isLt
  unfold over
  by_cases h : (y 0).val < p
  · rw [dif_pos h, View.read_writes_cons_unit_of_not_mem v f inbB B _ y rfl 0 (Or.inl h)]
    refine View.read_writes_cons_unit_of_mem v f inbA A [] y (ix2 ⟨(y 0).val, h⟩ (y 1)) rfl fun i => ?_
    fin_cases i
    · exact (Nat.zero_add _).symm
    · exact (Nat.zero_add _).symm
  · rw [dif_neg h]
    refine View.read_writes_cons_unit_of_mem v f inbB B _ y (ix2 ⟨(y 0).val - p, by omega⟩ (y 1)) rfl fun i => ?_
    fin_cases i
    · show (y 0).val = p + ((y 0).val - p)
      omega
    · exact (Nat.zero_add _).symm

end Parts

/-! ## The result -/

/-- The recurrent weights of the gates i, f, o, transposed, side by side. -/
def weightsIFO (w : Vec F S1536x384 .f32) : Vec F S384x1152 .fp8e4m3 :=
  beside (m := 384) (n := 1152) (p := 768) (by decide) (k0_pay14 (block 0 0 inb_S1536x384_S768x384_0_0 w))
    (k0_pay15 (block 1152 0 inb_S1536x384_S384x384_1152_0 w))

/-- The recurrent weights of the gate g, transposed. -/
def weightsG (w : Vec F S1536x384 .f32) : Vec F S384x384 .bf16 :=
  k0_pay18 (block 768 0 inb_S1536x384_S384x384_768_0 w)

/-- The forward recurrence over the inputs. -/
def forward (x0 : Vec F S512x1536 .f32) (x1 : Vec F S1536x1536 .f32) (x3 : Vec F S1x1536 .f32) (x5 : Vec F S1536x384 .f32) :=
  scanK (weightsIFO x5) (weightsG x5) (rowOf (k0_pay12 x0 x1 x3))

/-- The backward recurrence over the inputs: it goes through the rows from the last. -/
def backward (x0 : Vec F S512x1536 .f32) (x2 : Vec F S1536x1536 .f32) (x4 : Vec F S1x1536 .f32) (x6 : Vec F S1536x384 .f32) :=
  scanK (weightsIFO x6) (weightsG x6) (fun k => rowOf (k0_pay13 x0 x2 x4) (511 - k))

/-- The products of the second half of the scorer's weights, over 32 rows of zeros. -/
def padded (T : Vec F S512x768 .f32) (x7 : Vec F S384x1536 .f32) : Vec F S544x384 .f32 :=
  over (m := 544) (n := 384) (p := 512) (by decide) (k0_pay27 T (block 0 768 inb_S384x1536_S384x768_0_768 x7)) k0_pay28

/-- One column of the result: the scores of the spans of length `j + 1`, from the products `A` of the spans' begins and
    the products `R` of their ends, zero where the span runs past the last row. -/
def column (j : ℕ) (A R : FVec F S512x384 .f32) (w : Vec F S384x1 .f32) (b : Vec F S1x1 .f32) : FVec F S512x1 .f32 :=
  select (cmpi .slt (addi (iota .tc S512x1 32 [0] iota_S512x1_d0_w32) (broadcast S512x1 (BitVec.ofNat 32 j))) (broadcast S512x1 512#32))
    (addf (matmul dot_S512x384_S384x1_S512x1_1_0_0_1_n_n none
        (maximumf (addf A R) (broadcast S512x384 (Scalar.ofBits .f32 0x00000000#32)))
        (shapeCast S384x1 w shapeCasts_S384x1_S384x1) (constant S512x1 .f32 0x00000000#32))
      (broadcastTo S512x1 (shapeCast S1x1 b shapeCasts_S1x1_S1x1) broadcasts_S1x1_S512x1))
    (broadcast S512x1 (Scalar.ofBits .f32 0x00000000#32))

/-- Thirty columns of 512 scores lie in the result. -/
theorem inb_column (j : Fin 30) : ∀ i, (![0, 29 - j.val] : Fin 2 → ℕ) i + S512x1.size i ≤ S512x30.size i := by
  intro i
  fin_cases i
  · exact le_rfl
  · show 29 - j.val + 1 ≤ 30
    omega

/-- The window of 512 rows at an offset below 30 lies in the padded products. -/
theorem inb_window (j : Fin 30) : ∀ i, (![29 - j.val, 0] : Fin 2 → ℕ) i + S512x384.size i ≤ S544x384.size i := by
  intro i
  fin_cases i
  · show 29 - j.val + 512 ≤ 544
    omega
  · exact le_rfl

/-- The result's columns, one for each span length. -/
def scoresK (A : FVec F S512x384 .f32) (P : Vec F S544x384 .f32) (w : Vec F S384x1 .f32) (b : Vec F S1x1 .f32) : Vec F S512x30 .f32 :=
  fun y => column (y 1).val A (fun z => P (ix2 ⟨(y 1).val + (z 0).val, by
    have h1 : (y 1).val < 30 := (y 1).isLt
    have h0 : (z 0).val < 512 := (z 0).isLt
    omega⟩ (z 1))) w b (ix2 (y 0) 0)

/-- What the body computes from its eleven inputs. -/
def result (x0 : Vec F S512x1536 .f32) (x1 : Vec F S1536x1536 .f32) (x2 : Vec F S1536x1536 .f32) (x3 : Vec F S1x1536 .f32) (x4 : Vec F S1x1536 .f32) (x5 : Vec F S1536x384 .f32) (x6 : Vec F S1536x384 .f32) (x7 : Vec F S384x1536 .f32) (x8 : Vec F S1x384 .f32) (x9 : Vec F S384x1 .f32) (x10 : Vec F S1x1 .f32) : Vec F S512x30 .f32 :=
  scoresK (k0_pay26 (k0_pay25 (tableK (forward x0 x1 x3 x5) (backward x0 x2 x4 x6)) (block 0 0 inb_S384x1536_S384x768_0_0 x7)) x8)
    (padded (tableK (forward x0 x1 x3 x5) (backward x0 x2 x4 x6)) x7) x9 x10

/-- The thirty stored columns read as the result. -/
theorem read_columns {κ : Kind} {sp : Space} (v : View sig κ sp S512x30 .f32) (f : v.ty.Contents (Elt F))
    (A : FVec F S512x384 .f32) (P : Vec F S544x384 .f32) (w : Vec F S384x1 .f32) (b : Vec F S1x1 .f32)
    (R : Fin 30 → FVec F S512x384 .f32) (hR : ∀ j, R j = block (29 - j.val) 0 (inb_window j) P) :
    v.read (Elt F) (v.writes (Elt F) f (List.ofFn fun j : Fin 30 =>
      (⟨Rect.unit (s := S512x30) ![0, 29 - j.val] S512x1.size (inb_column j),
        column (29 - j.val) A (R j) w b⟩ : View.Piece (Elt F) S512x30 .f32))) = scoresK A P w b := by
  obtain rfl : R = fun j => block (29 - j.val) 0 (inb_window j) P := funext hR
  funext y
  have h1 : (y 1).val < 30 := (y 1).isLt
  refine View.read_writes_apply_of_pieces v f (scoresK A P w b) _ ?_ y ?_
  · intro p hp
    obtain ⟨j, rfl⟩ := (List.mem_ofFn' _ _).mp hp
    intro x
    have hx : (x 1).val < 1 := (x 1).isLt
    have e0 : (Rect.unit (s := S512x30) ![0, 29 - j.val] S512x1.size (inb_column j)).emb x 0 = x 0 := Fin.ext (by
      show 0 + 1 * (x 0).val = (x 0).val
      omega)
    have e1 : ((Rect.unit (s := S512x30) ![0, 29 - j.val] S512x1.size (inb_column j)).emb x 1).val = 29 - j.val := by
      show 29 - j.val + 1 * (x 1).val = 29 - j.val
      omega
    have ex : ix2 (n0 := 512) (n1 := 1) (x 0) 0 = x := funext fun i => Fin.ext (by
      fin_cases i
      · rfl
      · show 0 = (x 1).val
        omega)
    show column (29 - j.val) A (block (29 - j.val) 0 (inb_window j) P) w b x = _
    unfold scoresK
    simp only [e0, e1]
    refine (congrArg₂ (fun R z => column (29 - j.val) A R w b z) ?_ ex).symm
    funext z
    refine congrArg P (funext fun i => Fin.ext ?_)
    fin_cases i
    · rfl
    · exact (Nat.zero_add _).symm
  · refine ⟨_, (List.mem_ofFn' _ _).mpr ⟨⟨29 - (y 1).val, by omega⟩, rfl⟩, ?_⟩
    rw [Rect.mem_set_unit]
    have h0 : (y 0).val < 512 := (y 0).isLt
    intro i
    fin_cases i
    · show 0 ≤ (y 0).val ∧ (y 0).val < 0 + 512
      omega
    · show 29 - (29 - (y 1).val) ≤ (y 1).val ∧ (y 1).val < 29 - (29 - (y 1).val) + 1
      omega

section Body

variable [∀ e, Nonempty (Elt F e)] (c : Dev nD) (arg0 : Memref sig .tc .vmem S512x1536 .f32) (harg0 : arg0.IsWhole) (arg1 : Memref sig .tc .vmem S1536x1536 .f32) (harg1 : arg1.IsWhole) (arg2 : Memref sig .tc .vmem S1536x1536 .f32) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x384 .f32) (harg5 : arg5.IsWhole) (arg6 : Memref sig .tc .vmem S1536x384 .f32) (harg6 : arg6.IsWhole) (arg7 : Memref sig .tc .vmem S384x1536 .f32) (harg7 : arg7.IsWhole) (arg8 : Memref sig .tc .vmem S1x384 .f32) (harg8 : arg8.IsWhole) (arg9 : Memref sig .tc .vmem S384x1 .f32) (harg9 : arg9.IsWhole) (arg10 : Memref sig .tc .vmem S1x1 .f32) (harg10 : arg10.IsWhole) (arg11 : Memref sig .tc .vmem S512x30 .f32) (harg11 : arg11.IsWhole) (arg12 : Memref sig .tc .vmem S512x1536 .f32) (harg12 : arg12.IsWhole) (arg13 : Memref sig .tc .vmem S512x1536 .f32) (harg13 : arg13.IsWhole) (arg14 : Memref sig .tc .vmem S512x768 .f32) (harg14 : arg14.IsWhole) (arg15 : Memref sig .tc .vmem S544x384 .f32) (harg15 : arg15.IsWhole) (arg16 : Memref sig .tc .vmem S384x1152 .fp8e4m3) (harg16 : arg16.IsWhole) (arg17 : Memref sig .tc .vmem S384x1152 .fp8e4m3) (harg17 : arg17.IsWhole) (arg18 : Memref sig .tc .vmem S384x384 .bf16) (harg18 : arg18.IsWhole) (arg19 : Memref sig .tc .vmem S384x384 .bf16) (harg19 : arg19.IsWhole) (x0 : Vec F S512x1536 .f32) (x1 : Vec F S1536x1536 .f32) (x2 : Vec F S1536x1536 .f32) (x3 : Vec F S1x1536 .f32) (x4 : Vec F S1x1536 .f32) (x5 : Vec F S1536x384 .f32) (x6 : Vec F S1536x384 .f32) (x7 : Vec F S384x1536 .f32) (x8 : Vec F S1x384 .f32) (x9 : Vec F S384x1 .f32) (x10 : Vec F S1x1 .f32)

/-- What the table's scratch is read as, in the body, after the loop. -/
abbrev tableRead (fs : BufTy.Contents (Elt F) arg14.view.ty) : Vec F S512x768 .f32 :=
  arg14.view.readAt (Elt F) (Rect.unit (s := S512x768) ![0, 0] S512x768.size inb_S512x768_S512x768_0_0).toLoadRect
    (arg14.view.writes (Elt F) fs (st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      (arg12.view.writes (Elt F) arg12.view.junk [⟨Rect.unit (s := S512x1536) ![0, 0] S512x1536.size inb_S512x1536_S512x1536_0_0, k0_pay12 (arg0.view.readAt (Elt F) (Rect.unit (s := S512x1536) ![0, 0] S512x1536.size inb_S512x1536_S512x1536_0_0).toLoadRect (harg0.unread x0)) (arg1.view.readAt (Elt F) (Rect.unit (s := S1536x1536) ![0, 0] S1536x1536.size inb_S1536x1536_S1536x1536_0_0).toLoadRect (harg1.unread x1)) (arg3.view.readAt (Elt F) (Rect.unit (s := S1x1536) ![0, 0] S1x1536.size inb_S1x1536_S1x1536_0_0).toLoadRect (harg3.unread x3))⟩])
      (arg13.view.writes (Elt F) arg13.view.junk [⟨Rect.unit (s := S512x1536) ![0, 0] S512x1536.size inb_S512x1536_S512x1536_0_0, k0_pay13 (arg0.view.readAt (Elt F) (Rect.unit (s := S512x1536) ![0, 0] S512x1536.size inb_S512x1536_S512x1536_0_0).toLoadRect (harg0.unread x0)) (arg2.view.readAt (Elt F) (Rect.unit (s := S1536x1536) ![0, 0] S1536x1536.size inb_S1536x1536_S1536x1536_0_0).toLoadRect (harg2.unread x2)) (arg4.view.readAt (Elt F) (Rect.unit (s := S1x1536) ![0, 0] S1x1536.size inb_S1x1536_S1x1536_0_0).toLoadRect (harg4.unread x4))⟩])
      (arg16.view.writes (Elt F) arg16.view.junk [⟨Rect.unit (s := S384x1152) ![0, 768] S384x384.size inb_S384x1152_S384x384_0_768, k0_pay15 (arg5.view.readAt (Elt F) (Rect.unit (s := S1536x384) ![1152, 0] S384x384.size inb_S1536x384_S384x384_1152_0).toLoadRect (harg5.unread x5))⟩, ⟨Rect.unit (s := S384x1152) ![0, 0] S384x768.size inb_S384x1152_S384x768_0_0, k0_pay14 (arg5.view.readAt (Elt F) (Rect.unit (s := S1536x384) ![0, 0] S768x384.size inb_S1536x384_S768x384_0_0).toLoadRect (harg5.unread x5))⟩])
      (arg17.view.writes (Elt F) arg17.view.junk [⟨Rect.unit (s := S384x1152) ![0, 768] S384x384.size inb_S384x1152_S384x384_0_768, k0_pay17 (arg6.view.readAt (Elt F) (Rect.unit (s := S1536x384) ![1152, 0] S384x384.size inb_S1536x384_S384x384_1152_0).toLoadRect (harg6.unread x6))⟩, ⟨Rect.unit (s := S384x1152) ![0, 0] S384x768.size inb_S384x1152_S384x768_0_0, k0_pay16 (arg6.view.readAt (Elt F) (Rect.unit (s := S1536x384) ![0, 0] S768x384.size inb_S1536x384_S768x384_0_0).toLoadRect (harg6.unread x6))⟩])
      (arg18.view.writes (Elt F) arg18.view.junk [⟨Rect.unit (s := S384x384) ![0, 0] S384x384.size inb_S384x384_S384x384_0_0, k0_pay18 (arg5.view.readAt (Elt F) (Rect.unit (s := S1536x384) ![768, 0] S384x384.size inb_S1536x384_S384x384_768_0).toLoadRect (harg5.unread x5))⟩])
      (arg19.view.writes (Elt F) arg19.view.junk [⟨Rect.unit (s := S384x384) ![0, 0] S384x384.size inb_S384x384_S384x384_0_0, k0_pay19 (arg6.view.readAt (Elt F) (Rect.unit (s := S1536x384) ![768, 0] S384x384.size inb_S1536x384_S384x384_768_0).toLoadRect (harg6.unread x6))⟩])
      (k0_pay20, k0_pay20, k0_pay20, k0_pay20) (Scf.trips k0_t1_loop.lb k0_t1_loop.ub k0_t1_loop.st)).2)

/-- It is the table of both recurrences over the inputs. -/
theorem tableRead_eq (fs : BufTy.Contents (Elt F) arg14.view.ty) :
    tableRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 fs = tableK (forward x0 x1 x3 x5) (backward x0 x2 x4 x6) := by
  have ht : Scf.trips k0_t1_loop.lb k0_t1_loop.ub k0_t1_loop.st = 512 := trips_eq
  unfold tableRead
  rw [ht, readWhole, table_read]
  unfold fwd bwd forward backward weightsIFO weightsG
  rw [read_stored, read_stored, read_stored, read_stored, read_beside (hp := by decide), read_beside (hp := by decide)]
  simp only [readBlock, block_whole, Memref.IsWhole.read_unread]
  rfl

/-- What the padded products' scratch is read as in the body. -/
theorem paddedRead_eq (T : Vec F S512x768 .f32) (j : Fin 30) :
    arg15.view.readCov (Val := Elt F) [⟨Rect.unit (s := S544x384) ![512, 0] S32x384.size inb_S544x384_S32x384_512_0, k0_pay28⟩,
        ⟨Rect.unit (s := S544x384) ![0, 0] S512x384.size inb_S544x384_S512x384_0_0,
          k0_pay27 T (arg7.view.readAt (Elt F) (Rect.unit (s := S384x1536) ![0, 768] S384x768.size inb_S384x1536_S384x768_0_768).toLoadRect (harg7.unread x7))⟩]
      (Rect.unit (s := S544x384) ![29 - j.val, 0] S512x384.size (inb_window j)).toLoadRect
    = block (29 - j.val) 0 (inb_window j) (padded T x7) := by
  unfold View.readCov padded
  rw [readBlock, read_over (hp := by decide), readBlock, Memref.IsWhole.read_unread]

/-- What the body leaves in the result's buffer. -/
theorem body_value (fs : BufTy.Contents (Elt F) arg14.view.ty) (f : BufTy.Contents (Elt F) arg11.view.ty) :
    arg11.view.read (Elt F) (arg11.view.writes (Elt F) f (List.ofFn fun j : Fin 30 =>
      (⟨Rect.unit (s := S512x30) ![0, 29 - j.val] S512x1.size (inb_column j),
        column (29 - j.val)
          (k0_pay26 (k0_pay25 (tableRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 fs) (arg7.view.readAt (Elt F) (Rect.unit (s := S384x1536) ![0, 0] S384x768.size inb_S384x1536_S384x768_0_0).toLoadRect (harg7.unread x7))) (arg8.view.readAt (Elt F) (Rect.unit (s := S1x384) ![0, 0] S1x384.size inb_S1x384_S1x384_0_0).toLoadRect (harg8.unread x8)))
          (arg15.view.readCov (Val := Elt F) [⟨Rect.unit (s := S544x384) ![512, 0] S32x384.size inb_S544x384_S32x384_512_0, k0_pay28⟩,
              ⟨Rect.unit (s := S544x384) ![0, 0] S512x384.size inb_S544x384_S512x384_0_0,
                k0_pay27 (tableRead c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 fs) (arg7.view.readAt (Elt F) (Rect.unit (s := S384x1536) ![0, 768] S384x768.size inb_S384x1536_S384x768_0_768).toLoadRect (harg7.unread x7))⟩]
            (Rect.unit (s := S544x384) ![29 - j.val, 0] S512x384.size (inb_window j)).toLoadRect)
          (arg9.view.readAt (Elt F) (Rect.unit (s := S384x1) ![0, 0] S384x1.size inb_S384x1_S384x1_0_0).toLoadRect (harg9.unread x9)) (arg10.view.readAt (Elt F) (Rect.unit (s := S1x1) ![0, 0] S1x1.size inb_S1x1_S1x1_0_0).toLoadRect (harg10.unread x10))⟩ : View.Piece (Elt F) S512x30 .f32)))
      = result x0 x1 x2 x3 x4 x5 x6 x7 x8 x9 x10 := by
  rw [tableRead_eq]
  refine (read_columns arg11.view f _ (padded (tableK (forward x0 x1 x3 x5) (backward x0 x2 x4 x6)) x7) _ _ _
    fun j => paddedRead_eq arg7 harg7 arg15 x7 _ j).trans ?_
  unfold result
  simp only [readBlock, block_whole, Memref.IsWhole.read_unread]

end Body

end Cert.KernelIdeal.Run

end
-- ==== Proof.KernelRun.lean ====
/- The kernel's body, run: on the eleven inputs' buffers it leaves the result of the inputs in the output's buffer. -/
module

public import proofs.«01_k».proof.Proof.KernelOut
public import proofs.«01_k».proof.Proof.Gen.KernelIdeal.Frame
public import proofs.«01_k».proof.Proof.Gen.KernelIdeal.Skeleton

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

-- the run's proof term is large
set_option maxHeartbeats 2000000 in
/-- The body's triple: from the inputs' buffers at `x0` … `x10`, the output's and the scratch buffers at anything, the body
    ends with the inputs as they were and the output at `result x0 … x10`. -/
theorem body_run (c : Dev nD) (arg0 : Memref sig .tc .vmem S512x1536 .f32) (harg0 : arg0.IsWhole) (arg1 : Memref sig .tc .vmem S1536x1536 .f32) (harg1 : arg1.IsWhole) (arg2 : Memref sig .tc .vmem S1536x1536 .f32) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x384 .f32) (harg5 : arg5.IsWhole) (arg6 : Memref sig .tc .vmem S1536x384 .f32) (harg6 : arg6.IsWhole) (arg7 : Memref sig .tc .vmem S384x1536 .f32) (harg7 : arg7.IsWhole) (arg8 : Memref sig .tc .vmem S1x384 .f32) (harg8 : arg8.IsWhole) (arg9 : Memref sig .tc .vmem S384x1 .f32) (harg9 : arg9.IsWhole) (arg10 : Memref sig .tc .vmem S1x1 .f32) (harg10 : arg10.IsWhole) (arg11 : Memref sig .tc .vmem S512x30 .f32) (harg11 : arg11.IsWhole) (arg12 : Memref sig .tc .vmem S512x1536 .f32) (harg12 : arg12.IsWhole) (arg13 : Memref sig .tc .vmem S512x1536 .f32) (harg13 : arg13.IsWhole) (arg14 : Memref sig .tc .vmem S512x768 .f32) (harg14 : arg14.IsWhole) (arg15 : Memref sig .tc .vmem S544x384 .f32) (harg15 : arg15.IsWhole) (arg16 : Memref sig .tc .vmem S384x1152 .fp8e4m3) (harg16 : arg16.IsWhole) (arg17 : Memref sig .tc .vmem S384x1152 .fp8e4m3) (harg17 : arg17.IsWhole) (arg18 : Memref sig .tc .vmem S384x384 .bf16) (harg18 : arg18.IsWhole) (arg19 : Memref sig .tc .vmem S384x384 .bf16) (harg19 : arg19.IsWhole) (x0 : Vec F S512x1536 .f32) (x1 : Vec F S1536x1536 .f32) (x2 : Vec F S1536x1536 .f32) (x3 : Vec F S1x1536 .f32) (x4 : Vec F S1x1536 .f32) (x5 : Vec F S1536x384 .f32) (x6 : Vec F S1536x384 .f32) (x7 : Vec F S384x1536 .f32) (x8 : Vec F S1x384 .f32) (x9 : Vec F S384x1 .f32) (x10 : Vec F S1x1 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (result x0 x1 x2 x3 x4 x5 x6 x7 x8 x9 x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K PUnit.unit))
      ⊢ wp frame (wpE (defs₀ (F := F)) Variants.none c none) E (cc0__fused_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec
  sl_step
  iapply Hk
  isplitl [H0]
  · iexists _; isplitr
    · ipureintro; exact harg0.read_unread _
    iexact H0
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr; swap
    · iexact H11
    ipureintro
    exact body_value c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 fs2 f11
  isplitl [HS0]
  · iexists _, _; isplitr; swap
    · iexact HS0
    ipureintro; rfl
  isplitl [HS1]
  · iexists _, _; isplitr; swap
    · iexact HS1
    ipureintro; rfl
  isplitl [HS2]
  · iexists _, _; isplitr; swap
    · iexact HS2
    ipureintro; rfl
  isplitl [HS3]
  · iexists _, _; isplitr; swap
    · iexact HS3
    ipureintro; rfl
  isplitl [HS4]
  · iexists _, _; isplitr; swap
    · iexact HS4
    ipureintro; rfl
  isplitl [HS5]
  · iexists _, _; isplitr; swap
    · iexact HS5
    ipureintro; rfl
  isplitl [HS6]
  · iexists _, _; isplitr; swap
    · iexact HS6
    ipureintro; rfl
  iexists _, _; isplitr; swap
  · iexact HS7
  ipureintro; rfl

end Cert.KernelIdeal.Run

end
-- ==== Proof.KernelLaunch.lean ====
/- The kernel's launch: the body at the grid's one point, the run of the whole program, what it leaves in the result and
   in the arguments. -/
module

public import proofs.«01_k».proof.Proof.KernelRun
public import proofs.«01_k».proof.Proof.Gen.KernelIdeal.Launch
public import Idealize.ShloMosaic.Lib.Claim
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The region's proof data: the arrays as the region finds them; after the body each input's buffer at its block and the
    output's at the result of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => result (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The arrays of the proof data. -/
theorem dats_A (c : Dev nD) (w : Fin cfg0.W) : (dats m 0 c).A w = V m c (Pipeline.arrRef spec0 w) := by
  dsimp only [dats]

/-! What the body leaves in the buffers, and what it finds in the inputs'. -/

theorem dats_after_0 (c : Dev nD) (t : Fin cfg0.N) : (dats m 0 c).after 0 t = iblk m c 0 t := by dsimp only [dats]
theorem dats_after_1 (c : Dev nD) (t : Fin cfg0.N) : (dats m 0 c).after 1 t = iblk m c 1 t := by dsimp only [dats]
theorem dats_after_2 (c : Dev nD) (t : Fin cfg0.N) : (dats m 0 c).after 2 t = iblk m c 2 t := by dsimp only [dats]
theorem dats_after_3 (c : Dev nD) (t : Fin cfg0.N) : (dats m 0 c).after 3 t = iblk m c 3 t := by dsimp only [dats]
theorem dats_after_4 (c : Dev nD) (t : Fin cfg0.N) : (dats m 0 c).after 4 t = iblk m c 4 t := by dsimp only [dats]
theorem dats_after_5 (c : Dev nD) (t : Fin cfg0.N) : (dats m 0 c).after 5 t = iblk m c 5 t := by dsimp only [dats]
theorem dats_after_6 (c : Dev nD) (t : Fin cfg0.N) : (dats m 0 c).after 6 t = iblk m c 6 t := by dsimp only [dats]
theorem dats_after_7 (c : Dev nD) (t : Fin cfg0.N) : (dats m 0 c).after 7 t = iblk m c 7 t := by dsimp only [dats]
theorem dats_after_8 (c : Dev nD) (t : Fin cfg0.N) : (dats m 0 c).after 8 t = iblk m c 8 t := by dsimp only [dats]
theorem dats_after_9 (c : Dev nD) (t : Fin cfg0.N) : (dats m 0 c).after 9 t = iblk m c 9 t := by dsimp only [dats]
theorem dats_after_10 (c : Dev nD) (t : Fin cfg0.N) : (dats m 0 c).after 10 t = iblk m c 10 t := by dsimp only [dats]
theorem dats_after_11 (c : Dev nD) (t : Fin cfg0.N) :
    (dats m 0 c).after 11 t = result (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem dats_before_0 (c : Dev nD) (t : Fin cfg0.N) (d) : (dats m 0 c).before 0 t d = iblk m c 0 t :=
  before0_0_of m (dats m 0 c) (dats_A m c 0) (dats_after_0 m c) t d
theorem dats_before_1 (c : Dev nD) (t : Fin cfg0.N) (d) : (dats m 0 c).before 1 t d = iblk m c 1 t :=
  before0_1_of m (dats m 0 c) (dats_A m c 1) (dats_after_1 m c) t d
theorem dats_before_2 (c : Dev nD) (t : Fin cfg0.N) (d) : (dats m 0 c).before 2 t d = iblk m c 2 t :=
  before0_2_of m (dats m 0 c) (dats_A m c 2) (dats_after_2 m c) t d
theorem dats_before_3 (c : Dev nD) (t : Fin cfg0.N) (d) : (dats m 0 c).before 3 t d = iblk m c 3 t :=
  before0_3_of m (dats m 0 c) (dats_A m c 3) (dats_after_3 m c) t d
theorem dats_before_4 (c : Dev nD) (t : Fin cfg0.N) (d) : (dats m 0 c).before 4 t d = iblk m c 4 t :=
  before0_4_of m (dats m 0 c) (dats_A m c 4) (dats_after_4 m c) t d
theorem dats_before_5 (c : Dev nD) (t : Fin cfg0.N) (d) : (dats m 0 c).before 5 t d = iblk m c 5 t :=
  before0_5_of m (dats m 0 c) (dats_A m c 5) (dats_after_5 m c) t d
theorem dats_before_6 (c : Dev nD) (t : Fin cfg0.N) (d) : (dats m 0 c).before 6 t d = iblk m c 6 t :=
  before0_6_of m (dats m 0 c) (dats_A m c 6) (dats_after_6 m c) t d
theorem dats_before_7 (c : Dev nD) (t : Fin cfg0.N) (d) : (dats m 0 c).before 7 t d = iblk m c 7 t :=
  before0_7_of m (dats m 0 c) (dats_A m c 7) (dats_after_7 m c) t d
theorem dats_before_8 (c : Dev nD) (t : Fin cfg0.N) (d) : (dats m 0 c).before 8 t d = iblk m c 8 t :=
  before0_8_of m (dats m 0 c) (dats_A m c 8) (dats_after_8 m c) t d
theorem dats_before_9 (c : Dev nD) (t : Fin cfg0.N) (d) : (dats m 0 c).before 9 t d = iblk m c 9 t :=
  before0_9_of m (dats m 0 c) (dats_A m c 9) (dats_after_9 m c) t d
theorem dats_before_10 (c : Dev nD) (t : Fin cfg0.N) (d) : (dats m 0 c).before 10 t d = iblk m c 10 t :=
  before0_10_of m (dats m 0 c) (dats_A m c 10) (dats_after_10 m c) t d

/-! ## The scratch buffers -/

abbrev scratch0 : Memref sig .tc .vmem S512x1536 .f32 := Memref.whole cc0_scratch0
abbrev scratch1 : Memref sig .tc .vmem S512x1536 .f32 := Memref.whole cc0_scratch1
abbrev scratch2 : Memref sig .tc .vmem S512x768 .f32 := Memref.whole cc0_scratch2
abbrev scratch3 : Memref sig .tc .vmem S544x384 .f32 := Memref.whole cc0_scratch3
abbrev scratch4 : Memref sig .tc .vmem S384x1152 .fp8e4m3 := Memref.whole cc0_scratch4
abbrev scratch5 : Memref sig .tc .vmem S384x1152 .fp8e4m3 := Memref.whole cc0_scratch5
abbrev scratch6 : Memref sig .tc .vmem S384x384 .bf16 := Memref.whole cc0_scratch6
abbrev scratch7 : Memref sig .tc .vmem S384x384 .bf16 := Memref.whole cc0_scratch7

/-- The region's invariant is the scratch buffers at any contents, with the generator's register. -/
theorem invariant_eq (c : Dev nD) :
    (Pipeline.ΦA spec0 c : sProp 𝕄) = iprop(iprop((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d) ∗ (∃ d, owns (c : Thread nD τ) scratch5 fullShare d) ∗ (∃ d, owns (c : Thread nD τ) scratch6 fullShare d) ∗ (∃ d, owns (c : Thread nD τ) scratch7 fullShare d)) ∗ (∃ r, prngReg c r)) := by
  unfold Pipeline.ΦA
  rw [scopedRest0_eq]
  simp only [scratch0, scratch1, scratch2, scratch3, scratch4, scratch5, scratch6, scratch7, owns_whole]
  try rfl

/-! ## The body at the grid's point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at the point: its run on the inputs' blocks. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dats_before_0, dats_before_1, dats_before_2, dats_before_3, dats_before_4, dats_before_5, dats_before_6, dats_before_7, dats_before_8, dats_before_9, dats_before_10]
  rw [show (dats m 0 c).Φ t.succ = (dats m 0 c).Φ t.castSucc from rfl,
    show (dats m 0 c).owesAt () t.succ = (dats m 0 c).owesAt () t.castSucc from rfl,
    dats_after_0, dats_after_1, dats_after_2, dats_after_3, dats_after_4, dats_after_5, dats_after_6, dats_after_7, dats_after_8, dats_after_9, dats_after_10, dats_after_11]
  rw [show (dats m 0 c).Φ t.castSucc = Pipeline.ΦA spec0 c from rfl, invariant_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, HS0, HS1, HS2, HS3, HS4, HS5, HS6, HS7⟩
  isplitl [HS0 HS1 HS2 HS3 HS4 HS5 HS6 HS7 Hg]
  · isplitl [HS0 HS1 HS2 HS3 HS4 HS5 HS6 HS7]
    · iframe
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The region's body at a point is the body on the point's buffers. -/
theorem body_row (t : Fin cfg0.N) : defs₀ (F := F) .tc cfg0.body (cfg0.bodyArgs t (cfg0.slots t)) = bodyAt0 t := by
  unfold defs₀; rw [Defs.onTc_tc]

/-- The region's obligation on its body. -/
theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
set_option maxHeartbeats 800000 in
/-- The whole program's run, with every counter at zero at the end. -/
theorem run_all : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

end Cert.KernelIdeal.Run

end
-- ==== Proof.KernelValue.lean ====
/- What a run of the kernel's program leaves: its result as a function of the thirteen arguments, the arguments unchanged. -/
module

public import proofs.«01_k».proof.Proof.KernelLaunch
public import proofs.«01_k».proof.Defs

@[expose] public section

set_option maxRecDepth 16384

noncomputable section

namespace Cert.KernelIdeal.Run

open Idealize.ShloMosaic Idealize.ShloMosaic.TcCoe Idealize.ShloMosaic.Tactic Idealize.ShloMosaic.ValueKit
open Idealize.SL Idealize.SL.RA Idealize.SL.BI Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-- The kernel's scores of the program's arguments. -/
def scoresOf (a0 : FVec F S512x1536 .f32) (a1 : FVec F S1536x1536 .f32) (a2 : FVec F S1536x384 .f32) (a3 a4 : FVec F S1536 .f32)
    (a5 : FVec F S1536x1536 .f32) (a6 : FVec F S1536x384 .f32) (a7 a8 : FVec F S1536 .f32) (a9 : FVec F S384x1536 .f32)
    (a10 : FVec F S384 .f32) (a11 : FVec F S1x384 .f32) (a12 : FVec F S1 .f32) : FVec F S512x30 .f32 :=
  result a0 a1 a5 (broadcastInDim S1x1536 ![1] bcast_S1536_S1x1536_1 (addf a3 a4))
    (broadcastInDim S1x1536 ![1] bcast_S1536_S1x1536_1 (addf a7 a8)) a2 a6 a9
    (broadcastInDim S1x384 ![1] bcast_S384_S1x384_1 a10) (transpose S384x1 [1, 0] a11 transposes_S1x384_S384x1_1_0)
    (broadcastInDim S1x1 ![1] bcast_S1_S1x1_1 a12)

/-- The program's result at the arguments a memory holds. -/
def value (c : Dev nD) : FVec F S512x30x1 .f32 :=
  broadcastInDim S512x30x1 ![0, 1] bcast_S512x30_S512x30x1_0_1 (scoresOf
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12)))

/-- A matrix read at an offset of no blocks is read in place. -/
theorem at_origin {α : Type} {p q : ℕ} (X : (⟨2, ![p, q]⟩ : Shape).Idx → α) (y y' : (⟨2, ![p, q]⟩ : Shape).Idx)
    (h : ∀ a, (y' a).val = 0 * (![p, q] : Fin 2 → ℕ) a + 1 * (y a).val) : X y' = X y :=
  congrArg X (funext fun a => Fin.ext ((h a).trans (by omega)))

/-! The grid has one point, so that each input's block is its whole array. -/

theorem block_0 (c : Dev nD) (t : Fin cfg0.N) : iblk m c 0 t = V m c main_arg0 :=
  funext fun y => at_origin (V m c main_arg0 : FVec F S512x1536 .f32) y _ (Fin.forall_fin_two.mpr ⟨rfl, rfl⟩)
theorem block_1 (c : Dev nD) (t : Fin cfg0.N) : iblk m c 1 t = V m c main_arg1 :=
  funext fun y => at_origin (V m c main_arg1 : FVec F S1536x1536 .f32) y _ (Fin.forall_fin_two.mpr ⟨rfl, rfl⟩)
theorem block_2 (c : Dev nD) (t : Fin cfg0.N) : iblk m c 2 t = V m c main_arg5 :=
  funext fun y => at_origin (V m c main_arg5 : FVec F S1536x1536 .f32) y _ (Fin.forall_fin_two.mpr ⟨rfl, rfl⟩)
theorem block_3 (c : Dev nD) (t : Fin cfg0.N) : iblk m c 3 t = V m c main_v1 :=
  funext fun y => at_origin (V m c main_v1 : FVec F S1x1536 .f32) y _ (Fin.forall_fin_two.mpr ⟨rfl, rfl⟩)
theorem block_4 (c : Dev nD) (t : Fin cfg0.N) : iblk m c 4 t = V m c main_v3 :=
  funext fun y => at_origin (V m c main_v3 : FVec F S1x1536 .f32) y _ (Fin.forall_fin_two.mpr ⟨rfl, rfl⟩)
theorem block_5 (c : Dev nD) (t : Fin cfg0.N) : iblk m c 5 t = V m c main_arg2 :=
  funext fun y => at_origin (V m c main_arg2 : FVec F S1536x384 .f32) y _ (Fin.forall_fin_two.mpr ⟨rfl, rfl⟩)
theorem block_6 (c : Dev nD) (t : Fin cfg0.N) : iblk m c 6 t = V m c main_arg6 :=
  funext fun y => at_origin (V m c main_arg6 : FVec F S1536x384 .f32) y _ (Fin.forall_fin_two.mpr ⟨rfl, rfl⟩)
theorem block_7 (c : Dev nD) (t : Fin cfg0.N) : iblk m c 7 t = V m c main_arg9 :=
  funext fun y => at_origin (V m c main_arg9 : FVec F S384x1536 .f32) y _ (Fin.forall_fin_two.mpr ⟨rfl, rfl⟩)
theorem block_8 (c : Dev nD) (t : Fin cfg0.N) : iblk m c 8 t = V m c main_v4 :=
  funext fun y => at_origin (V m c main_v4 : FVec F S1x384 .f32) y _ (Fin.forall_fin_two.mpr ⟨rfl, rfl⟩)
theorem block_9 (c : Dev nD) (t : Fin cfg0.N) : iblk m c 9 t = V m c main_v5 :=
  funext fun y => at_origin (V m c main_v5 : FVec F S384x1 .f32) y _ (Fin.forall_fin_two.mpr ⟨rfl, rfl⟩)
theorem block_10 (c : Dev nD) (t : Fin cfg0.N) : iblk m c 10 t = V m c main_v6 :=
  funext fun y => at_origin (V m c main_v6 : FVec F S1x1 .f32) y _ (Fin.forall_fin_two.mpr ⟨rfl, rfl⟩)

/-! The arrays the program computes before the region. -/

theorem entry_v1 (c : Dev nD) : V m c main_v1 = broadcastInDim S1x1536 ![1] bcast_S1536_S1x1536_1 (addf (m ((c : Thread nD τ).loc main_arg3)) (m ((c : Thread nD τ).loc main_arg4))) := by
  unfold V V0 hostOps0
  simp only [List.flatten_cons, List.flatten_nil, List.append_nil]
  after_results
theorem entry_v3 (c : Dev nD) : V m c main_v3 = broadcastInDim S1x1536 ![1] bcast_S1536_S1x1536_1 (addf (m ((c : Thread nD τ).loc main_arg7)) (m ((c : Thread nD τ).loc main_arg8))) := by
  unfold V V0 hostOps0
  simp only [List.flatten_cons, List.flatten_nil, List.append_nil]
  after_results
theorem entry_v4 (c : Dev nD) : V m c main_v4 = broadcastInDim S1x384 ![1] bcast_S384_S1x384_1 (m ((c : Thread nD τ).loc main_arg10)) := by
  unfold V V0 hostOps0
  simp only [List.flatten_cons, List.flatten_nil, List.append_nil]
  after_results
theorem entry_v5 (c : Dev nD) : V m c main_v5 = transpose S384x1 [1, 0] (m ((c : Thread nD τ).loc main_arg11)) transposes_S1x384_S384x1_1_0 := by
  unfold V V0 hostOps0
  simp only [List.flatten_cons, List.flatten_nil, List.append_nil]
  after_results
theorem entry_v6 (c : Dev nD) : V m c main_v6 = broadcastInDim S1x1 ![1] bcast_S1_S1x1_1 (m ((c : Thread nD τ).loc main_arg12)) := by
  unfold V V0 hostOps0
  simp only [List.flatten_cons, List.flatten_nil, List.append_nil]
  after_results

/-- The region leaves in its array the result of the arrays it was given. -/
theorem region_result (c : Dev nD) : (dats m 0 c).arrAt 11 cfg0.N = result (V m c main_arg0) (V m c main_arg1) (V m c main_arg5) (V m c main_v1) (V m c main_v3) (V m c main_arg2) (V m c main_arg6) (V m c main_arg9) (V m c main_v4) (V m c main_v5) (V m c main_v6) := by
  refine (dats m 0 c).arrAt_eq_of_after_last 11 t0_0 (by decide +kernel) _ fun j => ?_
  rw [dats_after_11, block_0, block_1, block_2, block_3, block_4, block_5, block_6, block_7, block_8, block_9, block_10]
  exact congrArg (result (V m c main_arg0) (V m c main_arg1) (V m c main_arg5) (V m c main_v1) (V m c main_v3) (V m c main_arg2) (V m c main_arg6) (V m c main_arg9) (V m c main_v4) (V m c main_v5) (V m c main_v6)) (funext fun a => Fin.ext rfl)

/-- After the program's last operation its result is the value of the arguments. -/
theorem tail_result (c : Dev nD) : Pipeline.afterTail₀ cfgs (dats m) 0 (V0 m) [hostOps1] c main_v8 = value m c := by
  unfold Pipeline.afterTail₀ hostOps1
  rw [List.flatten_cons, List.flatten_nil, List.append_nil, StableHlo.after_cons, StableHlo.after_nil]
  refine (StableHlo.unary_result ..).trans ?_
  have h : Pipeline.withArrays spec0 c (V0 m c) (fun w => (dats m 0 c).arrAt w (cfgs 0).N) (Proc.devRef .tc main_v7) = (dats m 0 c).arrAt 11 cfg0.N :=
    Pipeline.withArrays_arr spec0 launch0.win.arr_inj c (V0 m c) _ 11
  refine (congrArg (broadcastInDim S512x30x1 ![0, 1] bcast_S512x30_S512x30x1_0_1) (h.trans (region_result m c))).trans ?_
  rw [V_main_arg0, V_main_arg1, V_main_arg5, entry_v1, entry_v3, V_main_arg2, V_main_arg6, V_main_arg9, entry_v4, entry_v5, entry_v6]
  rfl

/-- A run leaves the arguments as they were. -/
theorem run_keeps : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (dats_A m) ((θ_run defs _ _).mono (fun _ h => h.1) (run_all m ρ))

/-- A run leaves the value of the arguments in the result, and the arguments as they were. -/
theorem run_value : θ_run defs (onTc (τ := τ) (main (F := F))) ⟨m, fun _ => 0, ρ⟩ (fun r => ∀ c : Dev nD,
      r.2.mem ((c.tc : Thread nD τ).loc main_v8) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(((h.2.1 c).2 main_v8 (Pipeline.mem_restRefs_of main_v8 (by decide) (by decide))).trans (tail_result m c)), h.1 c⟩)
    (θ_run_and (run_keeps m ρ) (run_all m ρ))

/-- On every launch the program runs to its end, leaves its arguments as they were and every counter at zero, whatever the
    floats are. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  θ_run_and (run_keeps m ρ) ((θ_run defs _ _).mono (fun _ h => h.2) (run_all m ρ))

/-- The kernel's program at the ideal floats runs to its end, leaves its arguments as they were and every counter at zero. -/
theorem frame : Cert.quiescent_KernelIdeal := fun m ρ _ => frame_any m ρ

end Cert.KernelIdeal.Run

end
-- ==== Proof.KernelMath.lean ====
/- The kernel's value over the extended reals is the plain mathematics of `Cert.Lstm`. -/
module

public import proofs.«01_k».proof.Proof.Lstm
public import proofs.«01_k».proof.Proof.KernelValue
public import Idealize.ShloMosaic.Lib.Pointwise
public import Idealize.ShloMosaic.Lib.WordCmp

@[expose] public section

set_option maxRecDepth 16384

noncomputable section

namespace Cert.KernelIdeal.Run

open Idealize.ShloMosaic Idealize.ShloMosaic.TcCoe Idealize.ShloMosaic.Pointwise
open Cert.KernelIdeal.Gen

/-! ## The recurrent weights -/

/-- The first 768 columns are the rows of the gates i and f. -/
theorem weightsIFO_low (w : Vec Ideal S1536x384 .f32) (k : Fin 384) (r : ℕ) (h : r < 1152) (hr : r < 768) :
    weightsIFO w (ix2 k ⟨r, h⟩) = w (ix2 ⟨r, by omega⟩ k) := by
  have e : weightsIFO w (ix2 k ⟨r, h⟩) = k0_pay14 (F := Ideal) (block 0 0 inb_S1536x384_S768x384_0_0 w) (ix2 k ⟨r, hr⟩) := dif_pos hr
  rw [e]
  pointwise [k0_pay14]
  exact congrArg w (congrArg₂ ix2 (Fin.ext (Nat.zero_add r)) (Fin.ext (Nat.zero_add k.val)))

/-- The last 384 columns are the rows of the gate o. -/
theorem weightsIFO_high (w : Vec Ideal S1536x384 .f32) (k l : Fin 384) (h : 768 + l.val < 1152) :
    weightsIFO w (ix2 k ⟨768 + l.val, h⟩) = w (ix2 ⟨1152 + l.val, by omega⟩ k) := by
  have e : weightsIFO w (ix2 k ⟨768 + l.val, h⟩)
      = k0_pay15 (F := Ideal) (block 1152 0 inb_S1536x384_S384x384_1152_0 w) (ix2 k ⟨768 + l.val - 768, by omega⟩) :=
    dif_neg (Nat.not_lt.mpr (Nat.le_add_right _ _))
  rw [e]
  pointwise [k0_pay15]
  exact congrArg w (congrArg₂ ix2 rfl (Fin.ext (Nat.zero_add k.val)))

/-- The columns of the gate g are its rows. -/
theorem weightsG_apply (w : Vec Ideal S1536x384 .f32) (k l : Fin 384) :
    weightsG w (ix2 k l) = w (ix2 ⟨768 + l.val, by omega⟩ k) := by
  unfold weightsG
  pointwise [k0_pay18]
  exact congrArg w (congrArg₂ ix2 rfl (Fin.ext (Nat.zero_add k.val)))

/-! ## The recurrence -/

/-- A gate before its activation, as the kernel sums it: the projected input and the state's product. -/
def preK (w : Vec Ideal S1536x384 .f32) (x : Vec Ideal S1x1536 .f32) (h : FVec Ideal S1x384 .f32) (r : Fin 1536) : EReal :=
  x (ix2 0 r) + ∑ k, h (ix2 0 k) * w (ix2 r k)

/-- A trip's new cell state is the model's. -/
theorem cell_apply (w : Vec Ideal S1536x384 .f32) (x : Vec Ideal S1x1536 .f32) (h c : FVec Ideal S1x384 .f32) (l : Fin 384) :
    k0_pay4 h c x (weightsIFO w) (weightsG w) (ix2 0 l) = Lstm.cell (preK w x h) (fun l => c (ix2 0 l)) l := by
  have hl := l.isLt
  unfold Lstm.cell preK
  pointwise [k0_pay4, k0_pay3, k0_pay2]
  simp (disch := omega) only [weightsIFO_low, weightsG_apply]

/-- A trip's new hidden state is the model's. -/
theorem hid_apply (w : Vec Ideal S1536x384 .f32) (x : Vec Ideal S1x1536 .f32) (h c : FVec Ideal S1x384 .f32) (l : Fin 384) :
    k0_pay5 h c x (weightsIFO w) (weightsG w) (ix2 0 l) = Lstm.hid (preK w x h) (fun l => c (ix2 0 l)) l := by
  unfold Lstm.hid
  rw [← cell_apply]
  unfold preK
  pointwise [k0_pay5, k0_pay3, k0_pay2]
  simp only [weightsIFO_high]

/-- Over rows that hold the inputs' projections, the recurrence is the model's run. -/
theorem scanK_run (w : Vec Ideal S1536x384 .f32) (Wih : Fin 1536 → Fin 1536 → EReal) (b : Fin 1536 → EReal) (xs : ℕ → Fin 1536 → EReal)
    (row : ℕ → Vec Ideal S1x1536 .f32) (hrow : ∀ k r, row k (ix2 0 r) = (∑ q, xs k q * Wih r q + b r : EReal)) (k : ℕ) :
    (fun l => (scanK (weightsIFO w) (weightsG w) row k).1 (ix2 0 l)) = (Lstm.run Wih (fun r k => w (ix2 r k)) b xs k).1
    ∧ (fun l => (scanK (weightsIFO w) (weightsG w) row k).2 (ix2 0 l)) = (Lstm.run Wih (fun r k => w (ix2 r k)) b xs k).2 := by
  induction k with
  | zero =>
    refine ⟨funext fun l => ?_, funext fun l => ?_⟩ <;>
    · show k0_pay20 (F := Ideal) (ix2 0 l) = (0 : EReal)
      pointwise [k0_pay20]
  | succ k ih =>
    obtain ⟨ih1, ih2⟩ := ih
    have hp : preK w (row k) (scanK (weightsIFO w) (weightsG w) row k).1
        = Lstm.pre Wih (fun r k => w (ix2 r k)) b (xs k) (Lstm.run Wih (fun r k => w (ix2 r k)) b xs k).1 := by
      funext r
      unfold preK Lstm.pre
      rw [hrow, ← ih1, add_right_comm]
      exact congrArg (· + b r) (congrArg₂ (· + ·) (Finset.sum_congr rfl fun q _ => mul_comm _ _)
        (Finset.sum_congr rfl fun q _ => mul_comm _ _))
    refine ⟨funext fun l => (hid_apply _ _ _ _ l).trans ?_, funext fun l => (cell_apply _ _ _ _ l).trans ?_⟩ <;>
    · rw [hp, ih2]; rfl

/-- The forward projections at a row. -/
theorem project_forward (x0 : Vec Ideal S512x1536 .f32) (x1 : Vec Ideal S1536x1536 .f32) (x3 : Vec Ideal S1x1536 .f32) (k : ℕ) (r : Fin 1536) :
    rowOf (k0_pay12 x0 x1 x3) k (ix2 0 r)
      = (∑ q, Lstm.ahead (fun t r => x0 (ix2 t r)) k q * x1 (ix2 r q) + x3 (ix2 0 r) : EReal) := by
  unfold rowOf Lstm.ahead
  pointwise [k0_pay12]

/-- The backward projections at a row. -/
theorem project_backward (x0 : Vec Ideal S512x1536 .f32) (x2 : Vec Ideal S1536x1536 .f32) (x4 : Vec Ideal S1x1536 .f32) (k : ℕ) (r : Fin 1536) :
    rowOf (k0_pay13 x0 x2 x4) (511 - k) (ix2 0 r)
      = (∑ q, Lstm.behind (fun t r => x0 (ix2 t r)) k q * x2 (ix2 r q) + x4 (ix2 0 r) : EReal) := by
  unfold rowOf Lstm.behind Lstm.ahead
  pointwise [k0_pay13]

/-- The state table is the model's. -/
theorem tableK_apply (x0 : Vec Ideal S512x1536 .f32) (x1 x2 : Vec Ideal S1536x1536 .f32) (x3 x4 : Vec Ideal S1x1536 .f32)
    (x5 x6 : Vec Ideal S1536x384 .f32) (t : Fin 512) (k : Fin 768) :
    tableK (forward x0 x1 x3 x5) (backward x0 x2 x4 x6) (ix2 t k)
      = Lstm.states
          (Lstm.run (fun r k => x1 (ix2 r k)) (fun r k => x5 (ix2 r k)) (fun r => x3 (ix2 0 r)) (Lstm.ahead fun t r => x0 (ix2 t r)))
          (Lstm.run (fun r k => x2 (ix2 r k)) (fun r k => x6 (ix2 r k)) (fun r => x4 (ix2 0 r)) (Lstm.behind fun t r => x0 (ix2 t r))) t k := by
  have hf := fun n => (scanK_run x5 (fun r k => x1 (ix2 r k)) (fun r => x3 (ix2 0 r)) (Lstm.ahead fun t r => x0 (ix2 t r)) _
    (project_forward x0 x1 x3) n).1
  have hb := fun n => (scanK_run x6 (fun r k => x2 (ix2 r k)) (fun r => x4 (ix2 0 r)) (Lstm.behind fun t r => x0 (ix2 t r)) _
    (project_backward x0 x2 x4) n).1
  unfold Lstm.states tableK
  by_cases h : k.val < 384
  · rw [dif_pos h]
    exact (dif_pos h).trans (congrFun (hf (t.val + 1)) ⟨k.val, h⟩)
  · rw [dif_neg h]
    exact (dif_neg h).trans (congrFun (hb (512 - t.val)) ⟨k.val - 384, by omega⟩)

/-! ## The span scorer -/

/-- The products of the first half of the scorer's weights, its bias added. -/
theorem begins_apply (T : Vec Ideal S512x768 .f32) (x7 : Vec Ideal S384x1536 .f32) (x8 : Vec Ideal S1x384 .f32) (t : Fin 512) (l : Fin 384) :
    k0_pay26 (k0_pay25 T (block 0 0 inb_S384x1536_S384x768_0_0 x7)) x8 (ix2 t l)
      = (∑ k : Fin 768, T (ix2 t k) * x7 (ix2 l ⟨k, by omega⟩) + x8 (ix2 0 l) : EReal) := by
  pointwise [k0_pay26, k0_pay25]
  refine congrArg (· + x8 (ix2 0 l)) (Finset.sum_congr rfl fun k _ => congrArg (T (ix2 t k) * ·) ?_)
  exact congrArg x7 (congrArg₂ ix2 (Fin.ext (Nat.zero_add _)) (Fin.ext (Nat.zero_add _)))

/-- The products of the second half, at a row of the table. -/
theorem padded_apply (T : Vec Ideal S512x768 .f32) (x7 : Vec Ideal S384x1536 .f32) (n : ℕ) (hn : n < 512) (h : n < 544) (l : Fin 384) :
    padded T x7 (ix2 ⟨n, h⟩ l) = (∑ k : Fin 768, T (ix2 ⟨n, hn⟩ k) * x7 (ix2 l ⟨768 + k, by omega⟩) : EReal) := by
  have e : padded T x7 (ix2 ⟨n, h⟩ l) = k0_pay27 T (block 0 768 inb_S384x1536_S384x768_0_768 x7) (ix2 ⟨n, hn⟩ l) := dif_pos hn
  rw [e]
  pointwise [k0_pay27]
  refine Finset.sum_congr rfl fun k _ => congrArg (T (ix2 ⟨n, hn⟩ k) * ·) ?_
  exact congrArg x7 (congrArg₂ ix2 (Fin.ext (Nat.zero_add _)) rfl)

/-- A column of scores at a row. -/
theorem column_apply (j : ℕ) (hj : j < 30) (A R : FVec Ideal S512x384 .f32) (w : Vec Ideal S384x1 .f32) (b : Vec Ideal S1x1 .f32) (t : Fin 512) :
    column j A R w b (ix2 t 0)
      = (if t.val + j < 512 then ∑ l, max (A (ix2 t l) + R (ix2 t l)) 0 * w (ix2 l 0) + b (ix2 0 0) else 0 : EReal) := by
  have h : column j A R w b (ix2 t 0)
      = Scalar.select (IntOp.cmpi .slt (IntOp.addi (BitVec.ofNat 32 t.val) (BitVec.ofNat 32 j)) 512#32)
        (∑ l, max (A (ix2 t l) + R (ix2 t l)) 0 * w (ix2 l 0) + b (ix2 0 0) : EReal) 0 := by
    pointwise [column]
  rw [h, WordCmp.addi_ofNat, WordCmp.cmpi_slt_ofNat (by omega) (by omega), WordCmp.select_decide]

/-- The scores are the model's over the table's entries. -/
theorem scoresK_apply (T : Vec Ideal S512x768 .f32) (x7 : Vec Ideal S384x1536 .f32) (x8 : Vec Ideal S1x384 .f32) (x9 : Vec Ideal S384x1 .f32)
    (x10 : Vec Ideal S1x1 .f32) (t : Fin 512) (j : Fin 30) :
    scoresK (k0_pay26 (k0_pay25 T (block 0 0 inb_S384x1536_S384x768_0_0 x7)) x8) (padded T x7) x9 x10 (ix2 t j)
      = Lstm.score (fun t k => T (ix2 t k)) (fun l k => x7 (ix2 l k)) (fun l => x8 (ix2 0 l)) (fun l => x9 (ix2 l 0)) (x10 (ix2 0 0)) t j := by
  refine (column_apply j.val j.isLt _ _ _ _ t).trans ?_
  unfold Lstm.score
  split
  · rename_i h
    refine congrArg (· + x10 (ix2 0 0)) (Finset.sum_congr rfl fun l _ => congrArg (fun y : EReal => max y 0 * x9 (ix2 l 0)) ?_)
    refine (congrArg₂ (· + ·) (begins_apply T x7 x8 t l) (padded_apply T x7 (j.val + t.val) (by omega) _ l)).trans ?_
    rw [add_right_comm]
    simp only [Nat.add_comm j.val t.val]
  · rfl

/-- The result of the thirteen arguments is the model's. -/
theorem scoresOf_apply (a0 : FVec Ideal S512x1536 .f32) (a1 : FVec Ideal S1536x1536 .f32) (a2 : FVec Ideal S1536x384 .f32)
    (a3 a4 : FVec Ideal S1536 .f32) (a5 : FVec Ideal S1536x1536 .f32) (a6 : FVec Ideal S1536x384 .f32) (a7 a8 : FVec Ideal S1536 .f32)
    (a9 : FVec Ideal S384x1536 .f32) (a10 : FVec Ideal S384 .f32) (a11 : FVec Ideal S1x384 .f32) (a12 : FVec Ideal S1 .f32)
    (t : Fin 512) (j : Fin 30) :
    scoresOf a0 a1 a2 a3 a4 a5 a6 a7 a8 a9 a10 a11 a12 (ix2 t j) = Lstm.spansOf a0 a1 a2 a3 a4 a5 a6 a7 a8 a9 a10 a11 a12 t j := by
  have bias : ∀ a b : FVec Ideal S1536 .f32, (fun r : Fin 1536 => broadcastInDim S1x1536 ![1] bcast_S1536_S1x1536_1 (addf a b) (ix2 0 r))
      = fun r => a (ix1 r) + b (ix1 r) := fun a b => by
    funext r
    pointwise
  have h10 : (fun l : Fin 384 => broadcastInDim S1x384 ![1] bcast_S384_S1x384_1 a10 (ix2 0 l)) = fun l => a10 (ix1 l) := by
    funext l
    pointwise
  have h11 : (fun l : Fin 384 => transpose S384x1 [1, 0] a11 transposes_S1x384_S384x1_1_0 (ix2 l 0)) = fun l => a11 (ix2 0 l) := by
    funext l
    pointwise
  have h12 : broadcastInDim S1x1 ![1] bcast_S1_S1x1_1 a12 (ix2 0 0) = a12 (ix1 0) := by
    pointwise
  unfold Lstm.spansOf Lstm.spans
  rw [← h10, ← h11, ← h12, ← bias, ← bias]
  refine (scoresK_apply _ a9 _ _ _ t j).trans (congrArg (fun e => Lstm.score e _ _ _ _ t j) (funext fun t => funext fun k => ?_))
  exact tableK_apply a0 a1 a5 _ _ a2 a6 t k

/-- A table with a unit axis appended reads the table. -/
theorem asColumn_apply (X : FVec Ideal S512x30 .f32) (t : Fin 512) (j : Fin 30) :
    broadcastInDim S512x30x1 ![0, 1] bcast_S512x30_S512x30x1_0_1 X (ix3 t j 0) = X (ix2 t j) := by
  pointwise

/-- The kernel's value at an index, read off its thirteen arguments. -/
theorem value_apply (m : (ℓ : Loc nD τ sig) → Buf (Elt Ideal) ℓ) (c : Dev nD) (t : Fin 512) (j : Fin 30) :
    value m c (ix3 t j 0)
      = Lstm.spansOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) t j := by
  exact (asColumn_apply _ t j).trans (scoresOf_apply _ _ _ _ _ _ _ _ _ _ _ _ _ t j)

end Cert.KernelIdeal.Run

end
-- ==== Proof.KernelPrinted.lean ====
/- The frame of the kernel as printed. Its text is the idealized kernel's, so the run proved there for every float type,
   read at the printed floats, is a run of it. -/
module

public import proofs.«01_k».proof.Proof.KernelValue
public import proofs.«01_k».proof.Proof.Gen.Kernel

@[expose] public section

set_option maxRecDepth 16384

noncomputable section

namespace Cert.Kernel.Run

open Idealize.ShloMosaic Idealize.ShloMosaic.TcCoe
open Cert.Kernel.Gen

variable {F : FTy → Type} [FloatOps F]

/-- The two programs have the same kernel bodies. -/
theorem bodies_eq : @Cert.Kernel.defs₀ F _ _ = @Cert.KernelIdeal.defs₀ F _ _ :=
  congrArg Defs.onTc (funext fun l => match l with
    | 0 => funext fun ⟨_, _⟩ => rfl
    | ⟨_ + 1, h⟩ => absurd h (Nat.not_lt.2 (Nat.le_add_left _ _)))

/-- The two programs have the same table of bodies, the pipelines' included. -/
theorem defs_eq : @Cert.Kernel.defs F _ _ = @Cert.KernelIdeal.defs F _ _ :=
  congrArg (Pipeline.defs Cert.Kernel.pcfgs) bodies_eq

/-- The kernel's program as printed runs to its end, leaves its arguments as they were and every counter at zero. -/
theorem frame : Cert.quiescent_Kernel := fun m ρ _ => by
  have h := Cert.KernelIdeal.Run.frame_any (F := Bits) m ρ
  rw [← defs_eq] at h
  exact h

end Cert.Kernel.Run

end
-- ==== Proof.RefOps.lean ====
/-
  The reference program as stretches of host operations around its two counted loops: the operations of every
  stretch in order, what buffers they touch and write, and the program as the chain of those stretches.
-/
module

public import proofs.«01_k».proof.ReferenceIdeal
public import proofs.«01_k».proof.Proof.Gen.ReferenceIdeal
public import Idealize.ShloMosaic.Lib.StableHlo.Run
public import Idealize.ShloMosaic.Lib.StableHlo.RunLoop

@[expose] public section

set_option maxRecDepth 2048

noncomputable section

namespace Cert.ReferenceIdeal.Scan

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-- Programs over the reference's effects and its two host loops. -/
abbrev HostProg (F : FTy → Type) [FloatOps F] : Type 1 :=
  Prog (TpuEff nD τ sig (Elt F) (HostLoop.Sig (Pipeline.Sig Λ₀ (Fin 0) fun p => (pcfgs (F := F) p).Adm) 2) .tc) PUnit

/-- The operations before the forward scan: its zero start states and the copies into the carried buffers. -/
abbrev preOps : List (HloOp τ sig (Elt F)) :=
  [ StableHlo.nullary main_cst (constant S_ .f32 0x00000000#32),
    StableHlo.unary main_cst main_v0 (broadcastInDim S384 ![] bcast_S_S384 : (⟨S_, .f32⟩ : BufTy).Contents (Elt F) → (⟨S384, .f32⟩ : BufTy).Contents (Elt F)),
    StableHlo.nullary main_cst_0 (constant S_ .f32 0x00000000#32),
    StableHlo.unary main_cst_0 main_v1 (broadcastInDim S384 ![] bcast_S_S384 : (⟨S_, .f32⟩ : BufTy).Contents (Elt F) → (⟨S384, .f32⟩ : BufTy).Contents (Elt F)),
    StableHlo.nullary main_cst_1 (constant S_ .f32 0x00000000#32),
    StableHlo.unary main_cst_1 main_v2 (broadcastInDim S512x384 ![] bcast_S_S512x384 : (⟨S_, .f32⟩ : BufTy).Contents (Elt F) → (⟨S512x384, .f32⟩ : BufTy).Contents (Elt F)),
    StableHlo.nullary main_c (constantI S_ 32 0#32),
    StableHlo.unary main_arg0 main_v3_0 id,
    StableHlo.unary main_arg1 main_v3_1 id,
    StableHlo.unary main_arg2 main_v3_2 id,
    StableHlo.unary main_arg3 main_v3_3 id,
    StableHlo.unary main_arg4 main_v3_4 id,
    StableHlo.unary main_c main_v3_5 id,
    StableHlo.unary main_v0 main_v3_6 id,
    StableHlo.unary main_v1 main_v3_7 id,
    StableHlo.unary main_v2 main_v3_8 id ]
theorem preOps_sub : (preOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
theorem preOps_fresh : ∀ op ∈ (preOps : List (HloOp τ sig (Elt F))), op.fresh = ∅ :=
  List.forall_iff_forall_mem.mp ⟨rfl, rfl, rfl, rfl, rfl, rfl, rfl, rfl, rfl, rfl, rfl, rfl, rfl, rfl, rfl, rfl⟩
/-- The reference each operation of `preOps` writes, in order. -/
abbrev preOps_W : List (Ref sig .tc) := [main_cst, main_v0, main_cst_0, main_v1, main_cst_1, main_v2, main_c, main_v3_0, main_v3_1, main_v3_2, main_v3_3, main_v3_4, main_v3_5, main_v3_6, main_v3_7, main_v3_8]
theorem preOps_writes : (preOps : List (HloOp τ sig (Elt F))).Forall fun op => op.writes ⊆ (preOps_W.map (Proc.devRef (τ := τ) .tc)).toFinset :=
  forall_writes_sub_of_map rfl

/-- The operations between the scans: the reversed input, the backward scan's zero start states and its carried buffers. -/
abbrev midOps : List (HloOp τ sig (Elt F)) :=
  [ StableHlo.unary main_arg0 main_v4 (Host.reverse [0] : (⟨S512x1536, .f32⟩ : BufTy).Contents (Elt F) → (⟨S512x1536, .f32⟩ : BufTy).Contents (Elt F)),
    StableHlo.nullary main_cst_2 (constant S_ .f32 0x00000000#32),
    StableHlo.unary main_cst_2 main_v5 (broadcastInDim S384 ![] bcast_S_S384 : (⟨S_, .f32⟩ : BufTy).Contents (Elt F) → (⟨S384, .f32⟩ : BufTy).Contents (Elt F)),
    StableHlo.nullary main_cst_3 (constant S_ .f32 0x00000000#32),
    StableHlo.unary main_cst_3 main_v6 (broadcastInDim S384 ![] bcast_S_S384 : (⟨S_, .f32⟩ : BufTy).Contents (Elt F) → (⟨S384, .f32⟩ : BufTy).Contents (Elt F)),
    StableHlo.nullary main_cst_4 (constant S_ .f32 0x00000000#32),
    StableHlo.unary main_cst_4 main_v7 (broadcastInDim S512x384 ![] bcast_S_S512x384 : (⟨S_, .f32⟩ : BufTy).Contents (Elt F) → (⟨S512x384, .f32⟩ : BufTy).Contents (Elt F)),
    StableHlo.nullary main_c_5 (constantI S_ 32 0#32),
    StableHlo.unary main_v4 main_v8_0 id,
    StableHlo.unary main_arg5 main_v8_1 id,
    StableHlo.unary main_arg6 main_v8_2 id,
    StableHlo.unary main_arg7 main_v8_3 id,
    StableHlo.unary main_arg8 main_v8_4 id,
    StableHlo.unary main_c_5 main_v8_5 id,
    StableHlo.unary main_v5 main_v8_6 id,
    StableHlo.unary main_v6 main_v8_7 id,
    StableHlo.unary main_v7 main_v8_8 id ]
theorem midOps_sub : (midOps : List (HloOp τ sig (Elt F))).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
theorem midOps_fresh : ∀ op ∈ (midOps : List (HloOp τ sig (Elt F))), op.fresh = ∅ :=
  List.forall_iff_forall_mem.mp ⟨rfl, rfl, rfl, rfl, rfl, rfl, rfl, rfl, rfl, rfl, rfl, rfl, rfl, rfl, rfl, rfl, rfl⟩
/-- The reference each operation of `midOps` writes, in order. -/
abbrev midOps_W : List (Ref sig .tc) := [main_v4, main_cst_2, main_v5, main_cst_3, main_v6, main_cst_4, main_v7, main_c_5, main_v8_0, main_v8_1, main_v8_2, main_v8_3, main_v8_4, main_v8_5, main_v8_6, main_v8_7, main_v8_8]
theorem midOps_writes : (midOps : List (HloOp τ sig (Elt F))).Forall fun op => op.writes ⊆ (midOps_W.map (Proc.devRef (τ := τ) .tc)).toFinset :=
  forall_writes_sub_of_map rfl

/-- The operations after the scans, first window: the state table and the first gathers. -/
abbrev pairOps1 : List (HloOp τ sig (Elt F)) :=
  [ StableHlo.unary main_v8_8 main_v9 (Host.reverse [0] : (⟨S512x384, .f32⟩ : BufTy).Contents (Elt F) → (⟨S512x384, .f32⟩ : BufTy).Contents (Elt F)),
    StableHlo.binary main_v3_8 main_v9 main_v10 ((fun a b => concatenate S512x768 1 [⟨S512x384, a⟩, ⟨S512x384, b⟩] concatenates_S512x384_S512x384_S512x768_d1) : (⟨S512x384, .f32⟩ : BufTy).Contents (Elt F) → (⟨S512x384, .f32⟩ : BufTy).Contents (Elt F) → (⟨S512x768, .f32⟩ : BufTy).Contents (Elt F)),
    StableHlo.nullary main_v11 (iotaInDim S512 32 0),
    StableHlo.unary main_v11 main_v12 (broadcastInDim S512x1 ![0] bcast_S512_S512x1_0 : (⟨S512, .i32⟩ : BufTy).Contents (Elt F) → (⟨S512x1, .i32⟩ : BufTy).Contents (Elt F)),
    StableHlo.nullary main_c_6 (constantI S_ 32 0#32),
    StableHlo.unary main_c_6 main_v13 (broadcastInDim S1x30 ![] bcast_S_S1x30 : (⟨S_, .i32⟩ : BufTy).Contents (Elt F) → (⟨S1x30, .i32⟩ : BufTy).Contents (Elt F)),
    StableHlo.unary main_v12 main_v14 (broadcastInDim S512x30 ![0, 1] bcast_S512x1_S512x30_0_1 : (⟨S512x1, .i32⟩ : BufTy).Contents (Elt F) → (⟨S512x30, .i32⟩ : BufTy).Contents (Elt F)),
    StableHlo.unary main_v13 main_v15 (broadcastInDim S512x30 ![0, 1] bcast_S1x30_S512x30_0_1 : (⟨S1x30, .i32⟩ : BufTy).Contents (Elt F) → (⟨S512x30, .i32⟩ : BufTy).Contents (Elt F)),
    StableHlo.binary main_v14 main_v15 main_v16 (addi : (⟨S512x30, .i32⟩ : BufTy).Contents (Elt F) → (⟨S512x30, .i32⟩ : BufTy).Contents (Elt F) → (⟨S512x30, .i32⟩ : BufTy).Contents (Elt F)),
    StableHlo.nullary main_v17 (iotaInDim S30 32 0),
    StableHlo.unary main_v17 main_v18 (broadcastInDim S1x30 ![1] bcast_S30_S1x30_1 : (⟨S30, .i32⟩ : BufTy).Contents (Elt F) → (⟨S1x30, .i32⟩ : BufTy).Contents (Elt F)),
    StableHlo.unary main_v18 main_v19 (broadcastInDim S512x30 ![0, 1] bcast_S1x30_S512x30_0_1 : (⟨S1x30, .i32⟩ : BufTy).Contents (Elt F) → (⟨S512x30, .i32⟩ : BufTy).Contents (Elt F)),
    StableHlo.binary main_v16 main_v19 main_v20 (addi : (⟨S512x30, .i32⟩ : BufTy).Contents (Elt F) → (⟨S512x30, .i32⟩ : BufTy).Contents (Elt F) → (⟨S512x30, .i32⟩ : BufTy).Contents (Elt F)),
    StableHlo.nullary main_c_7 (constantI S_ 32 512#32),
    StableHlo.unary main_c_7 main_v21 (broadcastInDim S512x30 ![] bcast_S_S512x30 : (⟨S_, .i32⟩ : BufTy).Contents (Elt F) → (⟨S512x30, .i32⟩ : BufTy).Contents (Elt F)),
    StableHlo.binary main_v20 main_v21 main_v22 (cmpi .slt : (⟨S512x30, .i32⟩ : BufTy).Contents (Elt F) → (⟨S512x30, .i32⟩ : BufTy).Contents (Elt F) → (⟨S512x30, .i1⟩ : BufTy).Contents (Elt F)),
    StableHlo.nullary main_c_8 (constantI S_ 32 0#32),
    StableHlo.unary main_c_8 main_v23 (broadcastInDim S512x30 ![] bcast_S_S512x30 : (⟨S_, .i32⟩ : BufTy).Contents (Elt F) → (⟨S512x30, .i32⟩ : BufTy).Contents (Elt F)),
    StableHlo.binary main_v16 main_v23 main_v24 (cmpi .slt : (⟨S512x30, .i32⟩ : BufTy).Contents (Elt F) → (⟨S512x30, .i32⟩ : BufTy).Contents (Elt F) → (⟨S512x30, .i1⟩ : BufTy).Contents (Elt F)),
    StableHlo.nullary main_c_9 (constantI S_ 32 512#32),
    StableHlo.unary main_c_9 main_v25 (broadcastInDim S512x30 ![] bcast_S_S512x30 : (⟨S_, .i32⟩ : BufTy).Contents (Elt F) → (⟨S512x30, .i32⟩ : BufTy).Contents (Elt F)),
    StableHlo.binary main_v16 main_v25 main_v26 (addi : (⟨S512x30, .i32⟩ : BufTy).Contents (Elt F) → (⟨S512x30, .i32⟩ : BufTy).Contents (Elt F) → (⟨S512x30, .i32⟩ : BufTy).Contents (Elt F)),
    StableHlo.ternary main_v24 main_v26 main_v16 main_v27 (select : (⟨S512x30, .i1⟩ : BufTy).Contents (Elt F) → (⟨S512x30, .i32⟩ : BufTy).Contents (Elt F) → (⟨S512x30, .i32⟩ : BufTy).Contents (Elt F) → (⟨S512x30, .i32⟩ : BufTy).Contents (Elt F)),
    StableHlo.unary main_v27 main_v28 (broadcastInDim S512x30x1 ![0, 1] bcast_S512x30_S512x30x1_0_1 : (⟨S512x30, .i32⟩ : BufTy).Contents (Elt F) → (⟨S512x30x1, .i32⟩ : BufTy).Contents (Elt F)),
    StableHlo.binary main_v10 main_v28 main_v29 ((fun x i => Host.gather gather_S512x768_S512x30x1_S512x30x768_2_0_n_n_0_2_1768 x i) : (⟨S512x768, .f32⟩ : BufTy).Contents (Elt F) → (⟨S512x30x1, .i32⟩ : BufTy).Contents (Elt F) → (⟨S512x30x768, .f32⟩ : BufTy).Contents (Elt F)) ]
theorem pairOps1_sub : (pairOps1 : List (HloOp τ sig (Elt F))).Forall fun op => op.bufs ⊆ tcRefs τ sig :=
  ⟨unary_bufs_sub .., binary_bufs_sub .., nullary_bufs_sub .., unary_bufs_sub .., nullary_bufs_sub .., unary_bufs_sub .., unary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem pairOps1_fresh : ∀ op ∈ (pairOps1 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl⟩
/-- The reference each operation of `pairOps1` writes, in order. -/
abbrev pairOps1_W : List (Ref sig .tc) := [main_v9, main_v10, main_v11, main_v12, main_c_6, main_v13, main_v14, main_v15, main_v16, main_v17, main_v18, main_v19, main_v20, main_c_7, main_v21, main_v22, main_c_8, main_v23, main_v24, main_c_9, main_v25, main_v26, main_v27, main_v28, main_v29]
theorem pairOps1_writes : (pairOps1 : List (HloOp τ sig (Elt F))).Forall fun op => op.writes ⊆ (pairOps1_W.map (Proc.devRef (τ := τ) .tc)).toFinset :=
  forall_writes_sub_of_map rfl

/-- Second window: the gathered pairs and the hidden layer. -/
abbrev pairOps2 : List (HloOp τ sig (Elt F)) :=
  [ StableHlo.nullary main_c_10 (constantI S_ 32 511#32),
    StableHlo.unary main_c_10 main_v30 (broadcastInDim S512x30 ![] bcast_S_S512x30 : (⟨S_, .i32⟩ : BufTy).Contents (Elt F) → (⟨S512x30, .i32⟩ : BufTy).Contents (Elt F)),
    StableHlo.binary main_v20 main_v30 main_v31 (minsi : (⟨S512x30, .i32⟩ : BufTy).Contents (Elt F) → (⟨S512x30, .i32⟩ : BufTy).Contents (Elt F) → (⟨S512x30, .i32⟩ : BufTy).Contents (Elt F)),
    StableHlo.nullary main_c_11 (constantI S_ 32 0#32),
    StableHlo.unary main_c_11 main_v32 (broadcastInDim S512x30 ![] bcast_S_S512x30 : (⟨S_, .i32⟩ : BufTy).Contents (Elt F) → (⟨S512x30, .i32⟩ : BufTy).Contents (Elt F)),
    StableHlo.binary main_v31 main_v32 main_v33 (cmpi .slt : (⟨S512x30, .i32⟩ : BufTy).Contents (Elt F) → (⟨S512x30, .i32⟩ : BufTy).Contents (Elt F) → (⟨S512x30, .i1⟩ : BufTy).Contents (Elt F)),
    StableHlo.nullary main_c_12 (constantI S_ 32 512#32),
    StableHlo.unary main_c_12 main_v34 (broadcastInDim S512x30 ![] bcast_S_S512x30 : (⟨S_, .i32⟩ : BufTy).Contents (Elt F) → (⟨S512x30, .i32⟩ : BufTy).Contents (Elt F)),
    StableHlo.binary main_v31 main_v34 main_v35 (addi : (⟨S512x30, .i32⟩ : BufTy).Contents (Elt F) → (⟨S512x30, .i32⟩ : BufTy).Contents (Elt F) → (⟨S512x30, .i32⟩ : BufTy).Contents (Elt F)),
    StableHlo.ternary main_v33 main_v35 main_v31 main_v36 (select : (⟨S512x30, .i1⟩ : BufTy).Contents (Elt F) → (⟨S512x30, .i32⟩ : BufTy).Contents (Elt F) → (⟨S512x30, .i32⟩ : BufTy).Contents (Elt F) → (⟨S512x30, .i32⟩ : BufTy).Contents (Elt F)),
    StableHlo.unary main_v36 main_v37 (broadcastInDim S512x30x1 ![0, 1] bcast_S512x30_S512x30x1_0_1 : (⟨S512x30, .i32⟩ : BufTy).Contents (Elt F) → (⟨S512x30x1, .i32⟩ : BufTy).Contents (Elt F)),
    StableHlo.binary main_v10 main_v37 main_v38 ((fun x i => Host.gather gather_S512x768_S512x30x1_S512x30x768_2_0_n_n_0_2_1768 x i) : (⟨S512x768, .f32⟩ : BufTy).Contents (Elt F) → (⟨S512x30x1, .i32⟩ : BufTy).Contents (Elt F) → (⟨S512x30x768, .f32⟩ : BufTy).Contents (Elt F)),
    StableHlo.binary main_v29 main_v38 main_v39 ((fun a b => concatenate S512x30x1536 2 [⟨S512x30x768, a⟩, ⟨S512x30x768, b⟩] concatenates_S512x30x768_S512x30x768_S512x30x1536_d2) : (⟨S512x30x768, .f32⟩ : BufTy).Contents (Elt F) → (⟨S512x30x768, .f32⟩ : BufTy).Contents (Elt F) → (⟨S512x30x1536, .f32⟩ : BufTy).Contents (Elt F)),
    StableHlo.unary main_arg9 main_v40 ((transpose S1536x384 [1, 0] · transposes_S384x1536_S1536x384_1_0) : (⟨S384x1536, .f32⟩ : BufTy).Contents (Elt F) → (⟨S1536x384, .f32⟩ : BufTy).Contents (Elt F)),
    StableHlo.binary main_v39 main_v40 main_v41 ((fun l r => Host.dotGeneral dot_S512x30x1536_S1536x384_S512x30x384_2_0_01_1_n_n none l r) : (⟨S512x30x1536, .f32⟩ : BufTy).Contents (Elt F) → (⟨S1536x384, .f32⟩ : BufTy).Contents (Elt F) → (⟨S512x30x384, .f32⟩ : BufTy).Contents (Elt F)),
    StableHlo.unary main_arg10 main_v42 (broadcastInDim S1x1x384 ![2] bcast_S384_S1x1x384_2 : (⟨S384, .f32⟩ : BufTy).Contents (Elt F) → (⟨S1x1x384, .f32⟩ : BufTy).Contents (Elt F)),
    StableHlo.unary main_v42 main_v43 (broadcastInDim S512x30x384 ![0, 1, 2] bcast_S1x1x384_S512x30x384_0_1_2 : (⟨S1x1x384, .f32⟩ : BufTy).Contents (Elt F) → (⟨S512x30x384, .f32⟩ : BufTy).Contents (Elt F)),
    StableHlo.binary main_v41 main_v43 main_v44 (addf : (⟨S512x30x384, .f32⟩ : BufTy).Contents (Elt F) → (⟨S512x30x384, .f32⟩ : BufTy).Contents (Elt F) → (⟨S512x30x384, .f32⟩ : BufTy).Contents (Elt F)) ]
theorem pairOps2_sub : (pairOps2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub ..⟩
theorem pairOps2_fresh : ∀ op ∈ (pairOps2 : List (HloOp τ sig (Elt F))), op.fresh = ∅ :=
  List.forall_iff_forall_mem.mp ⟨rfl, rfl, rfl, rfl, rfl, rfl, rfl, rfl, rfl, rfl, rfl, rfl, rfl, rfl, rfl, rfl, rfl, rfl⟩
/-- The reference each operation of `pairOps2` writes, in order. -/
abbrev pairOps2_W : List (Ref sig .tc) := [main_c_10, main_v30, main_v31, main_c_11, main_v32, main_v33, main_c_12, main_v34, main_v35, main_v36, main_v37, main_v38, main_v39, main_v40, main_v41, main_v42, main_v43, main_v44]
theorem pairOps2_writes : (pairOps2 : List (HloOp τ sig (Elt F))).Forall fun op => op.writes ⊆ (pairOps2_W.map (Proc.devRef (τ := τ) .tc)).toFinset :=
  forall_writes_sub_of_map rfl

/-- The rectifier. -/
abbrev reluOps : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S512x30x384, .f32⟩) (broadcastInDim S512x30x384 ![] bcast_S_S512x30x384),
    StableHlo.TRef.binary (.of main_v44 : StableHlo.TRef sig ⟨S512x30x384, .f32⟩) (.of main_call4_v0 : StableHlo.TRef sig ⟨S512x30x384, .f32⟩) (.of main_v45 : StableHlo.TRef sig ⟨S512x30x384, .f32⟩) maximumf ]
theorem reluOps_sub : (reluOps : List (HloOp τ sig (Elt F))).Forall fun op => op.bufs ⊆ tcRefs τ sig :=
  ⟨nullary_bufs_sub .., unary_bufs_sub .., binary_bufs_sub ..⟩
theorem reluOps_fresh : ∀ op ∈ (reluOps : List (HloOp τ sig (Elt F))), op.fresh = ∅ :=
  List.forall_iff_forall_mem.mp ⟨rfl, rfl, rfl⟩
/-- The reference each operation of `reluOps` writes, in order. -/
abbrev reluOps_W : List (Ref sig .tc) := [main_call4_cst, main_call4_v0, main_v45]
theorem reluOps_writes : (reluOps : List (HloOp τ sig (Elt F))).Forall fun op => op.writes ⊆ (reluOps_W.map (Proc.devRef (τ := τ) .tc)).toFinset :=
  forall_writes_sub_of_map rfl

/-- The output layer and the mask. -/
abbrev outOps : List (HloOp τ sig (Elt F)) :=
  [ StableHlo.unary main_arg11 main_v46 ((transpose S384x1 [1, 0] · transposes_S1x384_S384x1_1_0) : (⟨S1x384, .f32⟩ : BufTy).Contents (Elt F) → (⟨S384x1, .f32⟩ : BufTy).Contents (Elt F)),
    StableHlo.binary main_v45 main_v46 main_v47 ((fun l r => Host.dotGeneral dot_S512x30x384_S384x1_S512x30x1_2_0_01_1_n_n none l r) : (⟨S512x30x384, .f32⟩ : BufTy).Contents (Elt F) → (⟨S384x1, .f32⟩ : BufTy).Contents (Elt F) → (⟨S512x30x1, .f32⟩ : BufTy).Contents (Elt F)),
    StableHlo.unary main_arg12 main_v48 (broadcastInDim S1x1x1 ![2] bcast_S1_S1x1x1_2 : (⟨S1, .f32⟩ : BufTy).Contents (Elt F) → (⟨S1x1x1, .f32⟩ : BufTy).Contents (Elt F)),
    StableHlo.unary main_v48 main_v49 (broadcastInDim S512x30x1 ![0, 1, 2] bcast_S1x1x1_S512x30x1_0_1_2 : (⟨S1x1x1, .f32⟩ : BufTy).Contents (Elt F) → (⟨S512x30x1, .f32⟩ : BufTy).Contents (Elt F)),
    StableHlo.binary main_v47 main_v49 main_v50 (addf : (⟨S512x30x1, .f32⟩ : BufTy).Contents (Elt F) → (⟨S512x30x1, .f32⟩ : BufTy).Contents (Elt F) → (⟨S512x30x1, .f32⟩ : BufTy).Contents (Elt F)),
    StableHlo.unary main_v22 main_v51 (broadcastInDim S512x30x1 ![0, 1] bcast_S512x30_S512x30x1_0_1 : (⟨S512x30, .i1⟩ : BufTy).Contents (Elt F) → (⟨S512x30x1, .i1⟩ : BufTy).Contents (Elt F)),
    StableHlo.nullary main_cst_13 (constant S_ .f32 0x00000000#32) ]
theorem outOps_sub : (outOps : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub ..⟩
theorem outOps_fresh : ∀ op ∈ (outOps : List (HloOp τ sig (Elt F))), op.fresh = ∅ :=
  List.forall_iff_forall_mem.mp ⟨rfl, rfl, rfl, rfl, rfl, rfl, rfl⟩
/-- The reference each operation of `outOps` writes, in order. -/
abbrev outOps_W : List (Ref sig .tc) := [main_v46, main_v47, main_v48, main_v49, main_v50, main_v51, main_cst_13]
theorem outOps_writes : (outOps : List (HloOp τ sig (Elt F))).Forall fun op => op.writes ⊆ (outOps_W.map (Proc.devRef (τ := τ) .tc)).toFinset :=
  forall_writes_sub_of_map rfl

/-- The selection by the mask. -/
abbrev maskOps : List (HloOp τ sig (Elt F)) :=
  [ StableHlo.TRef.unary (.of main_cst_13 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S512x30x1, .f32⟩) (broadcastInDim S512x30x1 ![] bcast_S_S512x30x1),
    StableHlo.TRef.ternary (.of main_v51 : StableHlo.TRef sig ⟨S512x30x1, .i1⟩) (.of main_v50 : StableHlo.TRef sig ⟨S512x30x1, .f32⟩) (.of main_call5_v1 : StableHlo.TRef sig ⟨S512x30x1, .f32⟩) (.of main_v52 : StableHlo.TRef sig ⟨S512x30x1, .f32⟩) select ]
theorem maskOps_sub : (maskOps : List (HloOp τ sig (Elt F))).Forall fun op => op.bufs ⊆ tcRefs τ sig :=
  ⟨unary_bufs_sub .., unary_bufs_sub .., ternary_bufs_sub ..⟩
theorem maskOps_fresh : ∀ op ∈ (maskOps : List (HloOp τ sig (Elt F))), op.fresh = ∅ :=
  List.forall_iff_forall_mem.mp ⟨rfl, rfl, rfl⟩
/-- The reference each operation of `maskOps` writes, in order. -/
abbrev maskOps_W : List (Ref sig .tc) := [main_call5_v0, main_call5_v1, main_v52]
theorem maskOps_writes : (maskOps : List (HloOp τ sig (Elt F))).Forall fun op => op.writes ⊆ (maskOps_W.map (Proc.devRef (τ := τ) .tc)).toFinset :=
  forall_writes_sub_of_map rfl

/-- The forward scan's body: row `k` of the carried input. -/
abbrev loop0Slice : List (HloOp τ sig (Elt F)) :=
  [ StableHlo.TRef.nullary (.of main_while0b_call0_c : StableHlo.TRef sig ⟨S_, .i32⟩) (constantI S_ 32 0#32),
    StableHlo.TRef.unaryIndexed (.of main_v3_0 : StableHlo.TRef sig ⟨S512x1536, .f32⟩) ![(.of main_v3_5 : StableHlo.TRef sig ⟨S_, .i32⟩), (.of main_while0b_call0_c : StableHlo.TRef sig ⟨S_, .i32⟩)] (.of main_while0b_call0_v0 : StableHlo.TRef sig ⟨S1x1536, .f32⟩) (fun x i => Host.dynamicSlice S1x1536 x (fun k => (i k (Shape.Idx.first h_S_)).toInt) sliceFits_S512x1536_S1x1536),
    StableHlo.TRef.reshape (.of main_while0b_call0_v0 : StableHlo.TRef sig ⟨S1x1536, .f32⟩) (.of main_while0b_v53 : StableHlo.TRef sig ⟨S1536, .f32⟩) (rfl : (.f32 : EltTy) = .f32) shapeCasts_S1x1536_S1536 ]
theorem loop0Slice_sub : (loop0Slice : List (HloOp τ sig (Elt F))).Forall fun op => op.bufs ⊆ tcRefs τ sig :=
  ⟨nullary_bufs_sub .., unaryIndexed_bufs_sub .., reshape_bufs_sub ..⟩
theorem loop0Slice_fresh : ∀ op ∈ (loop0Slice : List (HloOp τ sig (Elt F))), op.fresh = ∅ :=
  List.forall_iff_forall_mem.mp ⟨rfl, rfl, rfl⟩
/-- The reference each operation of `loop0Slice` writes, in order. -/
abbrev loop0Slice_W : List (Ref sig .tc) := [main_while0b_call0_c, main_while0b_call0_v0, main_while0b_v53]
theorem loop0Slice_writes : (loop0Slice : List (HloOp τ sig (Elt F))).Forall fun op => op.writes ⊆ (loop0Slice_W.map (Proc.devRef (τ := τ) .tc)).toFinset :=
  forall_writes_sub_of_map rfl

/-- The forward scan's body: the gates and the new cell and hidden state. -/
abbrev loop0Cell : List (HloOp τ sig (Elt F)) :=
  ( StableHlo.binary main_v3_1 main_while0b_v53 main_while0b_v54 ((fun l r => Host.dotGeneral dot_S1536x1536_S1536_S1536_1_0_0_n_n_n none l r) : (⟨S1536x1536, .f32⟩ : BufTy).Contents (Elt F) → (⟨S1536, .f32⟩ : BufTy).Contents (Elt F) → (⟨S1536, .f32⟩ : BufTy).Contents (Elt F))
  :: StableHlo.binary main_v3_2 main_v3_6 main_while0b_v55 ((fun l r => Host.dotGeneral dot_S1536x384_S384_S1536_1_0_0_n_n_n none l r) : (⟨S1536x384, .f32⟩ : BufTy).Contents (Elt F) → (⟨S384, .f32⟩ : BufTy).Contents (Elt F) → (⟨S1536, .f32⟩ : BufTy).Contents (Elt F))
  :: StableHlo.binary main_while0b_v54 main_while0b_v55 main_while0b_v56 (addf : (⟨S1536, .f32⟩ : BufTy).Contents (Elt F) → (⟨S1536, .f32⟩ : BufTy).Contents (Elt F) → (⟨S1536, .f32⟩ : BufTy).Contents (Elt F))
  :: StableHlo.binary main_while0b_v56 main_v3_3 main_while0b_v57 (addf : (⟨S1536, .f32⟩ : BufTy).Contents (Elt F) → (⟨S1536, .f32⟩ : BufTy).Contents (Elt F) → (⟨S1536, .f32⟩ : BufTy).Contents (Elt F))
  :: StableHlo.binary main_while0b_v57 main_v3_4 main_while0b_v58 (addf : (⟨S1536, .f32⟩ : BufTy).Contents (Elt F) → (⟨S1536, .f32⟩ : BufTy).Contents (Elt F) → (⟨S1536, .f32⟩ : BufTy).Contents (Elt F))
  :: StableHlo.unary main_while0b_v58 main_while0b_v59 ((extractStridedSlice S384 ![0] · slices_S1536_S384_0) : (⟨S1536, .f32⟩ : BufTy).Contents (Elt F) → (⟨S384, .f32⟩ : BufTy).Contents (Elt F))
  :: StableHlo.unary main_while0b_v59 main_while0b_v60 (Host.negf : (⟨S384, .f32⟩ : BufTy).Contents (Elt F) → (⟨S384, .f32⟩ : BufTy).Contents (Elt F))
  :: StableHlo.unary main_while0b_v60 main_while0b_v61 (Host.exp : (⟨S384, .f32⟩ : BufTy).Contents (Elt F) → (⟨S384, .f32⟩ : BufTy).Contents (Elt F))
  :: StableHlo.nullary main_while0b_cst_22 (constant S_ .f32 0x3F800000#32)
  :: StableHlo.unary main_while0b_cst_22 main_while0b_v62 (broadcastInDim S384 ![] bcast_S_S384 : (⟨S_, .f32⟩ : BufTy).Contents (Elt F) → (⟨S384, .f32⟩ : BufTy).Contents (Elt F))
  :: StableHlo.binary main_while0b_v62 main_while0b_v61 main_while0b_v63 (addf : (⟨S384, .f32⟩ : BufTy).Contents (Elt F) → (⟨S384, .f32⟩ : BufTy).Contents (Elt F) → (⟨S384, .f32⟩ : BufTy).Contents (Elt F))
  :: StableHlo.nullary main_while0b_cst_23 (constant S_ .f32 0x3F800000#32)
  :: StableHlo.unary main_while0b_cst_23 main_while0b_v64 (broadcastInDim S384 ![] bcast_S_S384 : (⟨S_, .f32⟩ : BufTy).Contents (Elt F) → (⟨S384, .f32⟩ : BufTy).Contents (Elt F))
  :: StableHlo.binary main_while0b_v64 main_while0b_v63 main_while0b_v65 (Host.divf : (⟨S384, .f32⟩ : BufTy).Contents (Elt F) → (⟨S384, .f32⟩ : BufTy).Contents (Elt F) → (⟨S384, .f32⟩ : BufTy).Contents (Elt F))
  :: StableHlo.unary main_while0b_v58 main_while0b_v66 ((extractStridedSlice S384 ![384] · slices_S1536_S384_384) : (⟨S1536, .f32⟩ : BufTy).Contents (Elt F) → (⟨S384, .f32⟩ : BufTy).Contents (Elt F))
  :: StableHlo.unary main_while0b_v66 main_while0b_v67 (Host.negf : (⟨S384, .f32⟩ : BufTy).Contents (Elt F) → (⟨S384, .f32⟩ : BufTy).Contents (Elt F))
  :: StableHlo.unary main_while0b_v67 main_while0b_v68 (Host.exp : (⟨S384, .f32⟩ : BufTy).Contents (Elt F) → (⟨S384, .f32⟩ : BufTy).Contents (Elt F))
  :: StableHlo.nullary main_while0b_cst_24 (constant S_ .f32 0x3F800000#32)
  :: StableHlo.unary main_while0b_cst_24 main_while0b_v69 (broadcastInDim S384 ![] bcast_S_S384 : (⟨S_, .f32⟩ : BufTy).Contents (Elt F) → (⟨S384, .f32⟩ : BufTy).Contents (Elt F))
  :: StableHlo.binary main_while0b_v69 main_while0b_v68 main_while0b_v70 (addf : (⟨S384, .f32⟩ : BufTy).Contents (Elt F) → (⟨S384, .f32⟩ : BufTy).Contents (Elt F) → (⟨S384, .f32⟩ : BufTy).Contents (Elt F))
  :: StableHlo.nullary main_while0b_cst_25 (constant S_ .f32 0x3F800000#32)
  :: StableHlo.unary main_while0b_cst_25 main_while0b_v71 (broadcastInDim S384 ![] bcast_S_S384 : (⟨S_, .f32⟩ : BufTy).Contents (Elt F) → (⟨S384, .f32⟩ : BufTy).Contents (Elt F))
  :: StableHlo.binary main_while0b_v71 main_while0b_v70 main_while0b_v72 (Host.divf : (⟨S384, .f32⟩ : BufTy).Contents (Elt F) → (⟨S384, .f32⟩ : BufTy).Contents (Elt F) → (⟨S384, .f32⟩ : BufTy).Contents (Elt F))
  :: StableHlo.unary main_while0b_v58 main_while0b_v73 ((extractStridedSlice S384 ![768] · slices_S1536_S384_768) : (⟨S1536, .f32⟩ : BufTy).Contents (Elt F) → (⟨S384, .f32⟩ : BufTy).Contents (Elt F))
  :: StableHlo.unary main_while0b_v73 main_while0b_v74 (Host.tanh : (⟨S384, .f32⟩ : BufTy).Contents (Elt F) → (⟨S384, .f32⟩ : BufTy).Contents (Elt F))
  :: StableHlo.unary main_while0b_v58 main_while0b_v75 ((extractStridedSlice S384 ![1152] · slices_S1536_S384_1152) : (⟨S1536, .f32⟩ : BufTy).Contents (Elt F) → (⟨S384, .f32⟩ : BufTy).Contents (Elt F))
  :: StableHlo.unary main_while0b_v75 main_while0b_v76 (Host.negf : (⟨S384, .f32⟩ : BufTy).Contents (Elt F) → (⟨S384, .f32⟩ : BufTy).Contents (Elt F))
  :: StableHlo.unary main_while0b_v76 main_while0b_v77 (Host.exp : (⟨S384, .f32⟩ : BufTy).Contents (Elt F) → (⟨S384, .f32⟩ : BufTy).Contents (Elt F))
  :: StableHlo.nullary main_while0b_cst_26 (constant S_ .f32 0x3F800000#32)
  :: StableHlo.unary main_while0b_cst_26 main_while0b_v78 (broadcastInDim S384 ![] bcast_S_S384 : (⟨S_, .f32⟩ : BufTy).Contents (Elt F) → (⟨S384, .f32⟩ : BufTy).Contents (Elt F))
  :: StableHlo.binary main_while0b_v78 main_while0b_v77 main_while0b_v79 (addf : (⟨S384, .f32⟩ : BufTy).Contents (Elt F) → (⟨S384, .f32⟩ : BufTy).Contents (Elt F) → (⟨S384, .f32⟩ : BufTy).Contents (Elt F))
  :: StableHlo.nullary main_while0b_cst_27 (constant S_ .f32 0x3F800000#32)
  :: StableHlo.unary main_while0b_cst_27 main_while0b_v80 (broadcastInDim S384 ![] bcast_S_S384 : (⟨S_, .f32⟩ : BufTy).Contents (Elt F) → (⟨S384, .f32⟩ : BufTy).Contents (Elt F))
  :: StableHlo.binary main_while0b_v80 main_while0b_v79 main_while0b_v81 (Host.divf : (⟨S384, .f32⟩ : BufTy).Contents (Elt F) → (⟨S384, .f32⟩ : BufTy).Contents (Elt F) → (⟨S384, .f32⟩ : BufTy).Contents (Elt F))
  :: StableHlo.binary main_while0b_v72 main_v3_7 main_while0b_v82 (mulf : (⟨S384, .f32⟩ : BufTy).Contents (Elt F) → (⟨S384, .f32⟩ : BufTy).Contents (Elt F) → (⟨S384, .f32⟩ : BufTy).Contents (Elt F))
  :: StableHlo.binary main_while0b_v65 main_while0b_v74 main_while0b_v83 (mulf : (⟨S384, .f32⟩ : BufTy).Contents (Elt F) → (⟨S384, .f32⟩ : BufTy).Contents (Elt F) → (⟨S384, .f32⟩ : BufTy).Contents (Elt F))
  :: StableHlo.binary main_while0b_v82 main_while0b_v83 main_while0b_v84 (addf : (⟨S384, .f32⟩ : BufTy).Contents (Elt F) → (⟨S384, .f32⟩ : BufTy).Contents (Elt F) → (⟨S384, .f32⟩ : BufTy).Contents (Elt F))
  :: StableHlo.unary main_while0b_v84 main_while0b_v85 (Host.tanh : (⟨S384, .f32⟩ : BufTy).Contents (Elt F) → (⟨S384, .f32⟩ : BufTy).Contents (Elt F))
  :: StableHlo.binary main_while0b_v81 main_while0b_v85 main_while0b_v86 (mulf : (⟨S384, .f32⟩ : BufTy).Contents (Elt F) → (⟨S384, .f32⟩ : BufTy).Contents (Elt F) → (⟨S384, .f32⟩ : BufTy).Contents (Elt F))
  :: [] )
theorem loop0Cell_sub : (loop0Cell : List (HloOp τ sig (Elt F))).Forall fun op => op.bufs ⊆ tcRefs τ sig :=
  ⟨binary_bufs_sub .., binary_bufs_sub .., binary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub ..⟩
theorem loop0Cell_fresh : ∀ op ∈ (loop0Cell : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The reference each operation of `loop0Cell` writes, in order. -/
abbrev loop0Cell_W : List (Ref sig .tc) := [main_while0b_v54, main_while0b_v55, main_while0b_v56, main_while0b_v57, main_while0b_v58, main_while0b_v59, main_while0b_v60, main_while0b_v61, main_while0b_cst_22, main_while0b_v62, main_while0b_v63, main_while0b_cst_23, main_while0b_v64, main_while0b_v65, main_while0b_v66, main_while0b_v67, main_while0b_v68, main_while0b_cst_24, main_while0b_v69, main_while0b_v70, main_while0b_cst_25, main_while0b_v71, main_while0b_v72, main_while0b_v73, main_while0b_v74, main_while0b_v75, main_while0b_v76, main_while0b_v77, main_while0b_cst_26, main_while0b_v78, main_while0b_v79, main_while0b_cst_27, main_while0b_v80, main_while0b_v81, main_while0b_v82, main_while0b_v83, main_while0b_v84, main_while0b_v85, main_while0b_v86]
theorem loop0Cell_writes : (loop0Cell : List (HloOp τ sig (Elt F))).Forall fun op => op.writes ⊆ (loop0Cell_W.map (Proc.devRef (τ := τ) .tc)).toFinset :=
  forall_writes_sub_of_map rfl

/-- The forward scan's body: the hidden state written to row `k` of the carried output. -/
abbrev loop0Store : List (HloOp τ sig (Elt F)) :=
  [ StableHlo.TRef.unary (.of main_while0b_v86 : StableHlo.TRef sig ⟨S384, .f32⟩) (.of main_while0b_call1_v0 : StableHlo.TRef sig ⟨S1x384, .f32⟩) (broadcastInDim S1x384 ![1] bcast_S384_S1x384_1),
    StableHlo.TRef.nullary (.of main_while0b_call1_c : StableHlo.TRef sig ⟨S_, .i32⟩) (constantI S_ 32 0#32),
    StableHlo.TRef.binaryIndexed (.of main_v3_8 : StableHlo.TRef sig ⟨S512x384, .f32⟩) (.of main_while0b_call1_v0 : StableHlo.TRef sig ⟨S1x384, .f32⟩) ![(.of main_v3_5 : StableHlo.TRef sig ⟨S_, .i32⟩), (.of main_while0b_call1_c : StableHlo.TRef sig ⟨S_, .i32⟩)] (.of main_while0b_v87 : StableHlo.TRef sig ⟨S512x384, .f32⟩) (fun x u i => Host.dynamicUpdateSlice x u (fun k => (i k (Shape.Idx.first h_S_)).toInt) updateFits_S512x384_S1x384) ]
theorem loop0Store_sub : (loop0Store : List (HloOp τ sig (Elt F))).Forall fun op => op.bufs ⊆ tcRefs τ sig :=
  ⟨unary_bufs_sub .., nullary_bufs_sub .., binaryIndexed_bufs_sub ..⟩
theorem loop0Store_fresh : ∀ op ∈ (loop0Store : List (HloOp τ sig (Elt F))), op.fresh = ∅ :=
  List.forall_iff_forall_mem.mp ⟨rfl, rfl, rfl⟩
/-- The reference each operation of `loop0Store` writes, in order. -/
abbrev loop0Store_W : List (Ref sig .tc) := [main_while0b_call1_v0, main_while0b_call1_c, main_while0b_v87]
theorem loop0Store_writes : (loop0Store : List (HloOp τ sig (Elt F))).Forall fun op => op.writes ⊆ (loop0Store_W.map (Proc.devRef (τ := τ) .tc)).toFinset :=
  forall_writes_sub_of_map rfl

/-- The forward scan's body: the counter's step and the copies back into the carried buffers. -/
abbrev loop0Carry : List (HloOp τ sig (Elt F)) :=
  [ StableHlo.nullary main_while0b_c_28 (constantI S_ 32 1#32),
    StableHlo.binary main_v3_5 main_while0b_c_28 main_while0b_v88 (addi : (⟨S_, .i32⟩ : BufTy).Contents (Elt F) → (⟨S_, .i32⟩ : BufTy).Contents (Elt F) → (⟨S_, .i32⟩ : BufTy).Contents (Elt F)),
    StableHlo.unary main_while0b_v88 main_v3_5 id,
    StableHlo.unary main_while0b_v86 main_v3_6 id,
    StableHlo.unary main_while0b_v84 main_v3_7 id,
    StableHlo.unary main_while0b_v87 main_v3_8 id ]
theorem loop0Carry_sub : (loop0Carry : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem loop0Carry_fresh : ∀ op ∈ (loop0Carry : List (HloOp τ sig (Elt F))), op.fresh = ∅ :=
  List.forall_iff_forall_mem.mp ⟨rfl, rfl, rfl, rfl, rfl, rfl⟩
/-- The reference each operation of `loop0Carry` writes, in order. -/
abbrev loop0Carry_W : List (Ref sig .tc) := [main_while0b_c_28, main_while0b_v88, main_v3_5, main_v3_6, main_v3_7, main_v3_8]
theorem loop0Carry_writes : (loop0Carry : List (HloOp τ sig (Elt F))).Forall fun op => op.writes ⊆ (loop0Carry_W.map (Proc.devRef (τ := τ) .tc)).toFinset :=
  forall_writes_sub_of_map rfl

/-- The backward scan's body: row `k` of the carried input. -/
abbrev loop1Slice : List (HloOp τ sig (Elt F)) :=
  [ StableHlo.TRef.nullary (.of main_while1b_call2_c : StableHlo.TRef sig ⟨S_, .i32⟩) (constantI S_ 32 0#32),
    StableHlo.TRef.unaryIndexed (.of main_v8_0 : StableHlo.TRef sig ⟨S512x1536, .f32⟩) ![(.of main_v8_5 : StableHlo.TRef sig ⟨S_, .i32⟩), (.of main_while1b_call2_c : StableHlo.TRef sig ⟨S_, .i32⟩)] (.of main_while1b_call2_v0 : StableHlo.TRef sig ⟨S1x1536, .f32⟩) (fun x i => Host.dynamicSlice S1x1536 x (fun k => (i k (Shape.Idx.first h_S_)).toInt) sliceFits_S512x1536_S1x1536),
    StableHlo.TRef.reshape (.of main_while1b_call2_v0 : StableHlo.TRef sig ⟨S1x1536, .f32⟩) (.of main_while1b_v53 : StableHlo.TRef sig ⟨S1536, .f32⟩) (rfl : (.f32 : EltTy) = .f32) shapeCasts_S1x1536_S1536 ]
theorem loop1Slice_sub : (loop1Slice : List (HloOp τ sig (Elt F))).Forall fun op => op.bufs ⊆ tcRefs τ sig :=
  ⟨nullary_bufs_sub .., unaryIndexed_bufs_sub .., reshape_bufs_sub ..⟩
theorem loop1Slice_fresh : ∀ op ∈ (loop1Slice : List (HloOp τ sig (Elt F))), op.fresh = ∅ :=
  List.forall_iff_forall_mem.mp ⟨rfl, rfl, rfl⟩
/-- The reference each operation of `loop1Slice` writes, in order. -/
abbrev loop1Slice_W : List (Ref sig .tc) := [main_while1b_call2_c, main_while1b_call2_v0, main_while1b_v53]
theorem loop1Slice_writes : (loop1Slice : List (HloOp τ sig (Elt F))).Forall fun op => op.writes ⊆ (loop1Slice_W.map (Proc.devRef (τ := τ) .tc)).toFinset :=
  forall_writes_sub_of_map rfl

/-- The backward scan's body: the gates and the new cell and hidden state. -/
abbrev loop1Cell : List (HloOp τ sig (Elt F)) :=
  ( StableHlo.binary main_v8_1 main_while1b_v53 main_while1b_v54 ((fun l r => Host.dotGeneral dot_S1536x1536_S1536_S1536_1_0_0_n_n_n none l r) : (⟨S1536x1536, .f32⟩ : BufTy).Contents (Elt F) → (⟨S1536, .f32⟩ : BufTy).Contents (Elt F) → (⟨S1536, .f32⟩ : BufTy).Contents (Elt F))
  :: StableHlo.binary main_v8_2 main_v8_6 main_while1b_v55 ((fun l r => Host.dotGeneral dot_S1536x384_S384_S1536_1_0_0_n_n_n none l r) : (⟨S1536x384, .f32⟩ : BufTy).Contents (Elt F) → (⟨S384, .f32⟩ : BufTy).Contents (Elt F) → (⟨S1536, .f32⟩ : BufTy).Contents (Elt F))
  :: StableHlo.binary main_while1b_v54 main_while1b_v55 main_while1b_v56 (addf : (⟨S1536, .f32⟩ : BufTy).Contents (Elt F) → (⟨S1536, .f32⟩ : BufTy).Contents (Elt F) → (⟨S1536, .f32⟩ : BufTy).Contents (Elt F))
  :: StableHlo.binary main_while1b_v56 main_v8_3 main_while1b_v57 (addf : (⟨S1536, .f32⟩ : BufTy).Contents (Elt F) → (⟨S1536, .f32⟩ : BufTy).Contents (Elt F) → (⟨S1536, .f32⟩ : BufTy).Contents (Elt F))
  :: StableHlo.binary main_while1b_v57 main_v8_4 main_while1b_v58 (addf : (⟨S1536, .f32⟩ : BufTy).Contents (Elt F) → (⟨S1536, .f32⟩ : BufTy).Contents (Elt F) → (⟨S1536, .f32⟩ : BufTy).Contents (Elt F))
  :: StableHlo.unary main_while1b_v58 main_while1b_v59 ((extractStridedSlice S384 ![0] · slices_S1536_S384_0) : (⟨S1536, .f32⟩ : BufTy).Contents (Elt F) → (⟨S384, .f32⟩ : BufTy).Contents (Elt F))
  :: StableHlo.unary main_while1b_v59 main_while1b_v60 (Host.negf : (⟨S384, .f32⟩ : BufTy).Contents (Elt F) → (⟨S384, .f32⟩ : BufTy).Contents (Elt F))
  :: StableHlo.unary main_while1b_v60 main_while1b_v61 (Host.exp : (⟨S384, .f32⟩ : BufTy).Contents (Elt F) → (⟨S384, .f32⟩ : BufTy).Contents (Elt F))
  :: StableHlo.nullary main_while1b_cst_22 (constant S_ .f32 0x3F800000#32)
  :: StableHlo.unary main_while1b_cst_22 main_while1b_v62 (broadcastInDim S384 ![] bcast_S_S384 : (⟨S_, .f32⟩ : BufTy).Contents (Elt F) → (⟨S384, .f32⟩ : BufTy).Contents (Elt F))
  :: StableHlo.binary main_while1b_v62 main_while1b_v61 main_while1b_v63 (addf : (⟨S384, .f32⟩ : BufTy).Contents (Elt F) → (⟨S384, .f32⟩ : BufTy).Contents (Elt F) → (⟨S384, .f32⟩ : BufTy).Contents (Elt F))
  :: StableHlo.nullary main_while1b_cst_23 (constant S_ .f32 0x3F800000#32)
  :: StableHlo.unary main_while1b_cst_23 main_while1b_v64 (broadcastInDim S384 ![] bcast_S_S384 : (⟨S_, .f32⟩ : BufTy).Contents (Elt F) → (⟨S384, .f32⟩ : BufTy).Contents (Elt F))
  :: StableHlo.binary main_while1b_v64 main_while1b_v63 main_while1b_v65 (Host.divf : (⟨S384, .f32⟩ : BufTy).Contents (Elt F) → (⟨S384, .f32⟩ : BufTy).Contents (Elt F) → (⟨S384, .f32⟩ : BufTy).Contents (Elt F))
  :: StableHlo.unary main_while1b_v58 main_while1b_v66 ((extractStridedSlice S384 ![384] · slices_S1536_S384_384) : (⟨S1536, .f32⟩ : BufTy).Contents (Elt F) → (⟨S384, .f32⟩ : BufTy).Contents (Elt F))
  :: StableHlo.unary main_while1b_v66 main_while1b_v67 (Host.negf : (⟨S384, .f32⟩ : BufTy).Contents (Elt F) → (⟨S384, .f32⟩ : BufTy).Contents (Elt F))
  :: StableHlo.unary main_while1b_v67 main_while1b_v68 (Host.exp : (⟨S384, .f32⟩ : BufTy).Contents (Elt F) → (⟨S384, .f32⟩ : BufTy).Contents (Elt F))
  :: StableHlo.nullary main_while1b_cst_24 (constant S_ .f32 0x3F800000#32)
  :: StableHlo.unary main_while1b_cst_24 main_while1b_v69 (broadcastInDim S384 ![] bcast_S_S384 : (⟨S_, .f32⟩ : BufTy).Contents (Elt F) → (⟨S384, .f32⟩ : BufTy).Contents (Elt F))
  :: StableHlo.binary main_while1b_v69 main_while1b_v68 main_while1b_v70 (addf : (⟨S384, .f32⟩ : BufTy).Contents (Elt F) → (⟨S384, .f32⟩ : BufTy).Contents (Elt F) → (⟨S384, .f32⟩ : BufTy).Contents (Elt F))
  :: StableHlo.nullary main_while1b_cst_25 (constant S_ .f32 0x3F800000#32)
  :: StableHlo.unary main_while1b_cst_25 main_while1b_v71 (broadcastInDim S384 ![] bcast_S_S384 : (⟨S_, .f32⟩ : BufTy).Contents (Elt F) → (⟨S384, .f32⟩ : BufTy).Contents (Elt F))
  :: StableHlo.binary main_while1b_v71 main_while1b_v70 main_while1b_v72 (Host.divf : (⟨S384, .f32⟩ : BufTy).Contents (Elt F) → (⟨S384, .f32⟩ : BufTy).Contents (Elt F) → (⟨S384, .f32⟩ : BufTy).Contents (Elt F))
  :: StableHlo.unary main_while1b_v58 main_while1b_v73 ((extractStridedSlice S384 ![768] · slices_S1536_S384_768) : (⟨S1536, .f32⟩ : BufTy).Contents (Elt F) → (⟨S384, .f32⟩ : BufTy).Contents (Elt F))
  :: StableHlo.unary main_while1b_v73 main_while1b_v74 (Host.tanh : (⟨S384, .f32⟩ : BufTy).Contents (Elt F) → (⟨S384, .f32⟩ : BufTy).Contents (Elt F))
  :: StableHlo.unary main_while1b_v58 main_while1b_v75 ((extractStridedSlice S384 ![1152] · slices_S1536_S384_1152) : (⟨S1536, .f32⟩ : BufTy).Contents (Elt F) → (⟨S384, .f32⟩ : BufTy).Contents (Elt F))
  :: StableHlo.unary main_while1b_v75 main_while1b_v76 (Host.negf : (⟨S384, .f32⟩ : BufTy).Contents (Elt F) → (⟨S384, .f32⟩ : BufTy).Contents (Elt F))
  :: StableHlo.unary main_while1b_v76 main_while1b_v77 (Host.exp : (⟨S384, .f32⟩ : BufTy).Contents (Elt F) → (⟨S384, .f32⟩ : BufTy).Contents (Elt F))
  :: StableHlo.nullary main_while1b_cst_26 (constant S_ .f32 0x3F800000#32)
  :: StableHlo.unary main_while1b_cst_26 main_while1b_v78 (broadcastInDim S384 ![] bcast_S_S384 : (⟨S_, .f32⟩ : BufTy).Contents (Elt F) → (⟨S384, .f32⟩ : BufTy).Contents (Elt F))
  :: StableHlo.binary main_while1b_v78 main_while1b_v77 main_while1b_v79 (addf : (⟨S384, .f32⟩ : BufTy).Contents (Elt F) → (⟨S384, .f32⟩ : BufTy).Contents (Elt F) → (⟨S384, .f32⟩ : BufTy).Contents (Elt F))
  :: StableHlo.nullary main_while1b_cst_27 (constant S_ .f32 0x3F800000#32)
  :: StableHlo.unary main_while1b_cst_27 main_while1b_v80 (broadcastInDim S384 ![] bcast_S_S384 : (⟨S_, .f32⟩ : BufTy).Contents (Elt F) → (⟨S384, .f32⟩ : BufTy).Contents (Elt F))
  :: StableHlo.binary main_while1b_v80 main_while1b_v79 main_while1b_v81 (Host.divf : (⟨S384, .f32⟩ : BufTy).Contents (Elt F) → (⟨S384, .f32⟩ : BufTy).Contents (Elt F) → (⟨S384, .f32⟩ : BufTy).Contents (Elt F))
  :: StableHlo.binary main_while1b_v72 main_v8_7 main_while1b_v82 (mulf : (⟨S384, .f32⟩ : BufTy).Contents (Elt F) → (⟨S384, .f32⟩ : BufTy).Contents (Elt F) → (⟨S384, .f32⟩ : BufTy).Contents (Elt F))
  :: StableHlo.binary main_while1b_v65 main_while1b_v74 main_while1b_v83 (mulf : (⟨S384, .f32⟩ : BufTy).Contents (Elt F) → (⟨S384, .f32⟩ : BufTy).Contents (Elt F) → (⟨S384, .f32⟩ : BufTy).Contents (Elt F))
  :: StableHlo.binary main_while1b_v82 main_while1b_v83 main_while1b_v84 (addf : (⟨S384, .f32⟩ : BufTy).Contents (Elt F) → (⟨S384, .f32⟩ : BufTy).Contents (Elt F) → (⟨S384, .f32⟩ : BufTy).Contents (Elt F))
  :: StableHlo.unary main_while1b_v84 main_while1b_v85 (Host.tanh : (⟨S384, .f32⟩ : BufTy).Contents (Elt F) → (⟨S384, .f32⟩ : BufTy).Contents (Elt F))
  :: StableHlo.binary main_while1b_v81 main_while1b_v85 main_while1b_v86 (mulf : (⟨S384, .f32⟩ : BufTy).Contents (Elt F) → (⟨S384, .f32⟩ : BufTy).Contents (Elt F) → (⟨S384, .f32⟩ : BufTy).Contents (Elt F))
  :: [] )
theorem loop1Cell_sub : (loop1Cell : List (HloOp τ sig (Elt F))).Forall fun op => op.bufs ⊆ tcRefs τ sig :=
  ⟨binary_bufs_sub .., binary_bufs_sub .., binary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub ..⟩
theorem loop1Cell_fresh : ∀ op ∈ (loop1Cell : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The reference each operation of `loop1Cell` writes, in order. -/
abbrev loop1Cell_W : List (Ref sig .tc) := [main_while1b_v54, main_while1b_v55, main_while1b_v56, main_while1b_v57, main_while1b_v58, main_while1b_v59, main_while1b_v60, main_while1b_v61, main_while1b_cst_22, main_while1b_v62, main_while1b_v63, main_while1b_cst_23, main_while1b_v64, main_while1b_v65, main_while1b_v66, main_while1b_v67, main_while1b_v68, main_while1b_cst_24, main_while1b_v69, main_while1b_v70, main_while1b_cst_25, main_while1b_v71, main_while1b_v72, main_while1b_v73, main_while1b_v74, main_while1b_v75, main_while1b_v76, main_while1b_v77, main_while1b_cst_26, main_while1b_v78, main_while1b_v79, main_while1b_cst_27, main_while1b_v80, main_while1b_v81, main_while1b_v82, main_while1b_v83, main_while1b_v84, main_while1b_v85, main_while1b_v86]
theorem loop1Cell_writes : (loop1Cell : List (HloOp τ sig (Elt F))).Forall fun op => op.writes ⊆ (loop1Cell_W.map (Proc.devRef (τ := τ) .tc)).toFinset :=
  forall_writes_sub_of_map rfl

/-- The backward scan's body: the hidden state written to row `k` of the carried output. -/
abbrev loop1Store : List (HloOp τ sig (Elt F)) :=
  [ StableHlo.TRef.unary (.of main_while1b_v86 : StableHlo.TRef sig ⟨S384, .f32⟩) (.of main_while1b_call3_v0 : StableHlo.TRef sig ⟨S1x384, .f32⟩) (broadcastInDim S1x384 ![1] bcast_S384_S1x384_1),
    StableHlo.TRef.nullary (.of main_while1b_call3_c : StableHlo.TRef sig ⟨S_, .i32⟩) (constantI S_ 32 0#32),
    StableHlo.TRef.binaryIndexed (.of main_v8_8 : StableHlo.TRef sig ⟨S512x384, .f32⟩) (.of main_while1b_call3_v0 : StableHlo.TRef sig ⟨S1x384, .f32⟩) ![(.of main_v8_5 : StableHlo.TRef sig ⟨S_, .i32⟩), (.of main_while1b_call3_c : StableHlo.TRef sig ⟨S_, .i32⟩)] (.of main_while1b_v87 : StableHlo.TRef sig ⟨S512x384, .f32⟩) (fun x u i => Host.dynamicUpdateSlice x u (fun k => (i k (Shape.Idx.first h_S_)).toInt) updateFits_S512x384_S1x384) ]
theorem loop1Store_sub : (loop1Store : List (HloOp τ sig (Elt F))).Forall fun op => op.bufs ⊆ tcRefs τ sig :=
  ⟨unary_bufs_sub .., nullary_bufs_sub .., binaryIndexed_bufs_sub ..⟩
theorem loop1Store_fresh : ∀ op ∈ (loop1Store : List (HloOp τ sig (Elt F))), op.fresh = ∅ :=
  List.forall_iff_forall_mem.mp ⟨rfl, rfl, rfl⟩
/-- The reference each operation of `loop1Store` writes, in order. -/
abbrev loop1Store_W : List (Ref sig .tc) := [main_while1b_call3_v0, main_while1b_call3_c, main_while1b_v87]
theorem loop1Store_writes : (loop1Store : List (HloOp τ sig (Elt F))).Forall fun op => op.writes ⊆ (loop1Store_W.map (Proc.devRef (τ := τ) .tc)).toFinset :=
  forall_writes_sub_of_map rfl

/-- The backward scan's body: the counter's step and the copies back into the carried buffers. -/
abbrev loop1Carry : List (HloOp τ sig (Elt F)) :=
  [ StableHlo.nullary main_while1b_c_28 (constantI S_ 32 1#32),
    StableHlo.binary main_v8_5 main_while1b_c_28 main_while1b_v88 (addi : (⟨S_, .i32⟩ : BufTy).Contents (Elt F) → (⟨S_, .i32⟩ : BufTy).Contents (Elt F) → (⟨S_, .i32⟩ : BufTy).Contents (Elt F)),
    StableHlo.unary main_while1b_v88 main_v8_5 id,
    StableHlo.unary main_while1b_v86 main_v8_6 id,
    StableHlo.unary main_while1b_v84 main_v8_7 id,
    StableHlo.unary main_while1b_v87 main_v8_8 id ]
theorem loop1Carry_sub : (loop1Carry : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem loop1Carry_fresh : ∀ op ∈ (loop1Carry : List (HloOp τ sig (Elt F))), op.fresh = ∅ :=
  List.forall_iff_forall_mem.mp ⟨rfl, rfl, rfl, rfl, rfl, rfl⟩
/-- The reference each operation of `loop1Carry` writes, in order. -/
abbrev loop1Carry_W : List (Ref sig .tc) := [main_while1b_c_28, main_while1b_v88, main_v8_5, main_v8_6, main_v8_7, main_v8_8]
theorem loop1Carry_writes : (loop1Carry : List (HloOp τ sig (Elt F))).Forall fun op => op.writes ⊆ (loop1Carry_W.map (Proc.devRef (τ := τ) .tc)).toFinset :=
  forall_writes_sub_of_map rfl

/-- The first window of @main: the two loops with the stretches around them. -/
theorem main_part0_chain (c : Dev nD) : main_part0 (F := F) c = (Pipeline.chainK
    [seq preOps, HostLoop.enter 0, seq midOps, HostLoop.enter 1] (seq pairOps1) : HostProg F) := by
  rewrite [chainK_seq_cons, Pipeline.chainK_cons, chainK_seq_cons, Pipeline.chainK_cons]
  chain_rfl

/-- The second window of @main: the span scorer's layers. -/
theorem main_part1_chain (c : Dev nD) : main_part1 (F := F) c = (Pipeline.chain
    [seq pairOps2, seq reluOps, seq outOps, seq maskOps] : HostProg F) := by
  rewrite [chain_seq_cons, Pipeline.chain_cons, chain_seq_cons, Pipeline.chain_cons]
  chain_rfl

/-- @main is the chain of its stretches and its two loops. -/
theorem main_chain (c : Dev nD) : main (F := F) c = (Pipeline.chain
    [seq preOps, HostLoop.enter 0, seq midOps, HostLoop.enter 1, seq pairOps1, seq pairOps2, seq reluOps, seq outOps,
      seq maskOps] : HostProg F) := by
  show (main_part0 (F := F) c >>= fun _ => main_part1 (F := F) c) = _
  rewrite [main_part1_chain, main_part0_chain, Pipeline.chainK_bind_chain]
  chain_rfl

/-- The forward scan's body region is the chain of its stretches. -/
theorem loop0_body_chain : main_while0_body (F := F) = (Pipeline.chain
    [seq loop0Slice, seq loop0Cell, seq loop0Store, seq loop0Carry] : HostProg F) := by
  rewrite [Pipeline.chain_cons, chain_seq_cons, Pipeline.chain_cons, chain_seq_cons]
  chain_rfl

/-- The backward scan's body region is the chain of its stretches. -/
theorem loop1_body_chain : main_while1_body (F := F) = (Pipeline.chain
    [seq loop1Slice, seq loop1Cell, seq loop1Store, seq loop1Carry] : HostProg F) := by
  rewrite [Pipeline.chain_cons, chain_seq_cons, Pipeline.chain_cons, chain_seq_cons]
  chain_rfl

end Cert.ReferenceIdeal.Scan

end
-- ==== Proof.RefScan.lean ====
/-
  One trip of each of the reference's two scans: the LSTM cell as plain functions of the carried values, and what
  the trip's operations leave in the carried buffers.
-/
module

public import proofs.«01_k».proof.Proof.RefOps

@[expose] public section

set_option maxRecDepth 8192

noncomputable section

namespace Cert.ReferenceIdeal.Scan

open Idealize.ShloMosaic Idealize.ShloMosaic.TcCoe Idealize.ShloMosaic.StableHlo
open Cert.ReferenceIdeal Cert.ReferenceIdeal.Gen

variable {F : FTy → Type} [FloatOps F]

/-- Row `ctr` of the input, as the trip reads it. -/
def rowAt (x : (⟨S512x1536, .f32⟩ : BufTy).Contents (Elt F)) (ctr : (⟨S_, .i32⟩ : BufTy).Contents (Elt F)) :
    (⟨S1536, .f32⟩ : BufTy).Contents (Elt F) :=
  shapeCast S1536 (Host.dynamicSlice S1x1536 x
    (fun k => (((![ctr, constantI S_ 32 0#32] : Fin 2 → (⟨S_, .i32⟩ : BufTy).Contents (Elt F))) k (Shape.Idx.first h_S_)).toInt)
    sliceFits_S512x1536_S1x1536) shapeCasts_S1x1536_S1536

/-- The four gates before their activations: both products and both biases. -/
def gates (Wih : (⟨S1536x1536, .f32⟩ : BufTy).Contents (Elt F)) (Whh : (⟨S1536x384, .f32⟩ : BufTy).Contents (Elt F))
    (bih bhh : (⟨S1536, .f32⟩ : BufTy).Contents (Elt F)) (row : (⟨S1536, .f32⟩ : BufTy).Contents (Elt F))
    (h : (⟨S384, .f32⟩ : BufTy).Contents (Elt F)) : (⟨S1536, .f32⟩ : BufTy).Contents (Elt F) :=
  addf (addf (addf (Host.dotGeneral dot_S1536x1536_S1536_S1536_1_0_0_n_n_n none Wih row)
    (Host.dotGeneral dot_S1536x384_S384_S1536_1_0_0_n_n_n none Whh h)) bih) bhh

/-- The sigmoid as the reference computes it, `1 / (1 + exp (-g))`. -/
def sig1 (g : (⟨S384, .f32⟩ : BufTy).Contents (Elt F)) : (⟨S384, .f32⟩ : BufTy).Contents (Elt F) :=
  Host.divf (broadcastInDim S384 ![] bcast_S_S384 (constant S_ .f32 0x3F800000#32))
    (addf (broadcastInDim S384 ![] bcast_S_S384 (constant S_ .f32 0x3F800000#32)) (Host.exp (Host.negf g)))

/-- The new cell state of the gates and the old cell state. -/
def cellOf (G : (⟨S1536, .f32⟩ : BufTy).Contents (Elt F)) (c : (⟨S384, .f32⟩ : BufTy).Contents (Elt F)) :
    (⟨S384, .f32⟩ : BufTy).Contents (Elt F) :=
  addf (mulf (sig1 (extractStridedSlice S384 ![384] G slices_S1536_S384_384)) c)
    (mulf (sig1 (extractStridedSlice S384 ![0] G slices_S1536_S384_0))
      (Host.tanh (extractStridedSlice S384 ![768] G slices_S1536_S384_768)))

/-- The new hidden state of the gates and the old cell state. -/
def hidOf (G : (⟨S1536, .f32⟩ : BufTy).Contents (Elt F)) (c : (⟨S384, .f32⟩ : BufTy).Contents (Elt F)) :
    (⟨S384, .f32⟩ : BufTy).Contents (Elt F) :=
  mulf (sig1 (extractStridedSlice S384 ![1152] G slices_S1536_S384_1152)) (Host.tanh (cellOf G c))

/-- The carried output with row `ctr` replaced by `h`. -/
def storeAt (hs : (⟨S512x384, .f32⟩ : BufTy).Contents (Elt F)) (h : (⟨S384, .f32⟩ : BufTy).Contents (Elt F))
    (ctr : (⟨S_, .i32⟩ : BufTy).Contents (Elt F)) : (⟨S512x384, .f32⟩ : BufTy).Contents (Elt F) :=
  Host.dynamicUpdateSlice hs (broadcastInDim S1x384 ![1] bcast_S384_S1x384_1 h)
    (fun k => (((![ctr, constantI S_ 32 0#32] : Fin 2 → (⟨S_, .i32⟩ : BufTy).Contents (Elt F))) k (Shape.Idx.first h_S_)).toInt)
    updateFits_S512x384_S1x384

/-- What a scan carries: the hidden state, the cell state and the rows written so far. -/
structure ScanState (F : FTy → Type) [FloatOps F] where
  h : (⟨S384, .f32⟩ : BufTy).Contents (Elt F)
  c : (⟨S384, .f32⟩ : BufTy).Contents (Elt F)
  hs : (⟨S512x384, .f32⟩ : BufTy).Contents (Elt F)

/-- Both scans start from zeros. -/
def scanInit : ScanState F where
  h := broadcastInDim S384 ![] bcast_S_S384 (constant S_ .f32 0x00000000#32)
  c := broadcastInDim S384 ![] bcast_S_S384 (constant S_ .f32 0x00000000#32)
  hs := broadcastInDim S512x384 ![] bcast_S_S512x384 (constant S_ .f32 0x00000000#32)

/-- One step of a scan at counter `ctr`. -/
def cellStep (x : (⟨S512x1536, .f32⟩ : BufTy).Contents (Elt F)) (Wih : (⟨S1536x1536, .f32⟩ : BufTy).Contents (Elt F))
    (Whh : (⟨S1536x384, .f32⟩ : BufTy).Contents (Elt F)) (bih bhh : (⟨S1536, .f32⟩ : BufTy).Contents (Elt F))
    (ctr : (⟨S_, .i32⟩ : BufTy).Contents (Elt F)) (s : ScanState F) : ScanState F where
  h := hidOf (gates Wih Whh bih bhh (rowAt x ctr) s.h) s.c
  c := cellOf (gates Wih Whh bih bhh (rowAt x ctr) s.h) s.c
  hs := storeAt s.hs (hidOf (gates Wih Whh bih bhh (rowAt x ctr) s.h) s.c) ctr

/-- The scan's state before trip `k`. -/
def scanAt (x : (⟨S512x1536, .f32⟩ : BufTy).Contents (Elt F)) (Wih : (⟨S1536x1536, .f32⟩ : BufTy).Contents (Elt F))
    (Whh : (⟨S1536x384, .f32⟩ : BufTy).Contents (Elt F)) (bih bhh : (⟨S1536, .f32⟩ : BufTy).Contents (Elt F)) : ℕ → ScanState F
  | 0 => scanInit
  | k + 1 => cellStep x Wih Whh bih bhh (fun _ => Scf.iv 0#32 1#32 k) (scanAt x Wih Whh bih bhh k)

/-! ## The forward scan -/

/-- The operations of loop 0's condition: the counter compared with 512. -/
abbrev loop0Cond : List (HloOp τ sig (Elt F)) :=
  [nullary main_while0c_c_22 (constantI S_ 32 512#32),
    binary main_v3_5 main_while0c_c_22 main_while0c_v53 (cmpi .slt)]

/-- The stretches of loop 0's body. -/
abbrev loop0Body : List (List (HloOp τ sig (Elt F))) := [loop0Slice, loop0Cell, loop0Store, loop0Carry]

/-- The references loop 0's condition writes. -/
abbrev loop0Cond_W : List (Ref sig .tc) := [main_while0c_c_22, main_while0c_v53]

theorem loop0Cond_writes : (loop0Cond : List (HloOp τ sig (Elt F))).Forall fun op => op.writes ⊆ (loop0Cond_W.map (Proc.devRef (τ := τ) .tc)).toFinset :=
  forall_writes_sub_of_map rfl

theorem loop0Body_plain : Plain (loop0Body (F := F)) :=
  .cons loop0Slice_sub (hf := loop0Slice_fresh) (.cons loop0Cell_sub (hf := loop0Cell_fresh)
    (.cons loop0Store_sub (hf := loop0Store_fresh) (.cons loop0Carry_sub (hf := loop0Carry_fresh) .nil)))

/-- The slice stretch reads the row at the counter. -/
theorem loop0_row (V : Valuation τ sig (Elt F)) :
    after loop0Slice V (Proc.devRef .tc main_while0b_v53) = rowAt (V (Proc.devRef .tc main_v3_0)) (V (Proc.devRef .tc main_v3_5)) := by
  unfold rowAt
  after_results_entrywise [cast_eq]

/-- The cell stretch computes the new cell state. -/
theorem loop0_cell (V : Valuation τ sig (Elt F)) :
    after loop0Cell V (Proc.devRef .tc main_while0b_v84)
      = cellOf (gates (V (Proc.devRef .tc main_v3_1)) (V (Proc.devRef .tc main_v3_2)) (V (Proc.devRef .tc main_v3_3)) (V (Proc.devRef .tc main_v3_4))
          (V (Proc.devRef .tc main_while0b_v53)) (V (Proc.devRef .tc main_v3_6))) (V (Proc.devRef .tc main_v3_7)) := by
  after_results_simp
  rfl

/-- The cell stretch computes the new hidden state. -/
theorem loop0_hid (V : Valuation τ sig (Elt F)) :
    after loop0Cell V (Proc.devRef .tc main_while0b_v86)
      = hidOf (gates (V (Proc.devRef .tc main_v3_1)) (V (Proc.devRef .tc main_v3_2)) (V (Proc.devRef .tc main_v3_3)) (V (Proc.devRef .tc main_v3_4))
          (V (Proc.devRef .tc main_while0b_v53)) (V (Proc.devRef .tc main_v3_6))) (V (Proc.devRef .tc main_v3_7)) := by
  after_results_simp
  rfl

/-- The store stretch replaces the row at the counter. -/
theorem loop0_store (V : Valuation τ sig (Elt F)) :
    after loop0Store V (Proc.devRef .tc main_while0b_v87)
      = storeAt (V (Proc.devRef .tc main_v3_8)) (V (Proc.devRef .tc main_while0b_v86)) (V (Proc.devRef .tc main_v3_5)) := by
  unfold storeAt
  after_results_entrywise [cast_eq]

/-- The carry stretch steps the counter. -/
theorem loop0_ctr (V : Valuation τ sig (Elt F)) :
    after loop0Carry V (Proc.devRef .tc main_v3_5) = addi (V (Proc.devRef .tc main_v3_5)) (constantI S_ 32 1#32) := by
  after_results
  rfl

/-- The carry stretch copies the new values back. -/
theorem loop0_copies (V : Valuation τ sig (Elt F)) :
    after loop0Carry V (Proc.devRef .tc main_v3_6) = V (Proc.devRef .tc main_while0b_v86)
      ∧ after loop0Carry V (Proc.devRef .tc main_v3_7) = V (Proc.devRef .tc main_while0b_v84)
      ∧ after loop0Carry V (Proc.devRef .tc main_v3_8) = V (Proc.devRef .tc main_while0b_v87) := by
  refine ⟨?_, ?_, ?_⟩ <;> · after_results; rfl

/-- Loop 0's carried buffers hold these values. -/
structure Carried0 (V : Valuation τ sig (Elt F)) (x : (⟨S512x1536, .f32⟩ : BufTy).Contents (Elt F))
    (Wih : (⟨S1536x1536, .f32⟩ : BufTy).Contents (Elt F)) (Whh : (⟨S1536x384, .f32⟩ : BufTy).Contents (Elt F))
    (bih bhh : (⟨S1536, .f32⟩ : BufTy).Contents (Elt F)) (s : ScanState F) (ctr : (⟨S_, .i32⟩ : BufTy).Contents (Elt F)) : Prop where
  x : V (Proc.devRef .tc main_v3_0) = x
  Wih : V (Proc.devRef .tc main_v3_1) = Wih
  Whh : V (Proc.devRef .tc main_v3_2) = Whh
  bih : V (Proc.devRef .tc main_v3_3) = bih
  bhh : V (Proc.devRef .tc main_v3_4) = bhh
  ctr : V (Proc.devRef .tc main_v3_5) = ctr
  h : V (Proc.devRef .tc main_v3_6) = s.h
  c : V (Proc.devRef .tc main_v3_7) = s.c
  hs : V (Proc.devRef .tc main_v3_8) = s.hs

/-- The references one trip of loop 0 writes before its last stretch. -/
abbrev loop0Temps_W : List (Ref sig .tc) := loop0Cond_W ++ loop0Slice_W ++ loop0Cell_W ++ loop0Store_W

/-- What the first stretches of a trip do not write they keep. -/
theorem loop0_keep (V : Valuation τ sig (Elt F)) (r : Ref sig .tc) (h : r ∉ loop0Temps_W) :
    after loop0Slice (after loop0Cond V) (Proc.devRef .tc r) = V (Proc.devRef .tc r)
      ∧ after loop0Cell (after loop0Slice (after loop0Cond V)) (Proc.devRef .tc r) = V (Proc.devRef .tc r)
      ∧ after loop0Store (after loop0Cell (after loop0Slice (after loop0Cond V))) (Proc.devRef .tc r) = V (Proc.devRef .tc r) := by
  simp only [loop0Temps_W, List.mem_append, not_or] at h
  obtain ⟨⟨⟨h1, h2⟩, h3⟩, h4⟩ := h
  have e1 : after loop0Slice (after loop0Cond V) (Proc.devRef .tc r) = V (Proc.devRef .tc r) := by
    rw [after_of_writes_sub loop0Slice _ loop0Slice_writes h2, after_of_writes_sub loop0Cond _ loop0Cond_writes h1]
  have e2 : after loop0Cell (after loop0Slice (after loop0Cond V)) (Proc.devRef .tc r) = V (Proc.devRef .tc r) := by
    rw [after_of_writes_sub loop0Cell _ loop0Cell_writes h3, e1]
  exact ⟨e1, e2, by rw [after_of_writes_sub loop0Store _ loop0Store_writes h4, e2]⟩

/-- One trip of loop 0 takes the carried values one cell step on. -/
theorem loop0_trip (V : Valuation τ sig (Elt F)) {x Wih Whh bih bhh s ctr} (hV : Carried0 V x Wih Whh bih bhh s ctr) :
    Carried0 (afterL loop0Body (after loop0Cond V)) x Wih Whh bih bhh (cellStep x Wih Whh bih bhh ctr s)
      (addi ctr (constantI S_ 32 1#32)) := by
  simp only [afterL_cons, afterL_nil]
  have hrow : after loop0Slice (after loop0Cond V) (Proc.devRef .tc main_while0b_v53) = rowAt x ctr := by
    rw [loop0_row, after_of_writes_sub loop0Cond _ loop0Cond_writes (by decide +kernel),
      after_of_writes_sub loop0Cond _ loop0Cond_writes (by decide +kernel), hV.x, hV.ctr]
  have hc : after loop0Cell (after loop0Slice (after loop0Cond V)) (Proc.devRef .tc main_while0b_v84)
      = cellOf (gates Wih Whh bih bhh (rowAt x ctr) s.h) s.c := by
    rw [loop0_cell, hrow, (loop0_keep V main_v3_1 (by decide +kernel)).1, (loop0_keep V main_v3_2 (by decide +kernel)).1,
      (loop0_keep V main_v3_3 (by decide +kernel)).1, (loop0_keep V main_v3_4 (by decide +kernel)).1,
      (loop0_keep V main_v3_6 (by decide +kernel)).1, (loop0_keep V main_v3_7 (by decide +kernel)).1,
      hV.Wih, hV.Whh, hV.bih, hV.bhh, hV.h, hV.c]
  have hh : after loop0Cell (after loop0Slice (after loop0Cond V)) (Proc.devRef .tc main_while0b_v86)
      = hidOf (gates Wih Whh bih bhh (rowAt x ctr) s.h) s.c := by
    rw [loop0_hid, hrow, (loop0_keep V main_v3_1 (by decide +kernel)).1, (loop0_keep V main_v3_2 (by decide +kernel)).1,
      (loop0_keep V main_v3_3 (by decide +kernel)).1, (loop0_keep V main_v3_4 (by decide +kernel)).1,
      (loop0_keep V main_v3_6 (by decide +kernel)).1, (loop0_keep V main_v3_7 (by decide +kernel)).1,
      hV.Wih, hV.Whh, hV.bih, hV.bhh, hV.h, hV.c]
  have same : ∀ r : Ref sig .tc, r ∉ loop0Temps_W → r ∉ loop0Carry_W →
      after loop0Carry (after loop0Store (after loop0Cell (after loop0Slice (after loop0Cond V)))) (Proc.devRef .tc r)
        = V (Proc.devRef .tc r) := fun r h h' => by
    rw [after_of_writes_sub loop0Carry _ loop0Carry_writes h', (loop0_keep V r h).2.2]
  obtain ⟨q6, q7, q8⟩ := loop0_copies (after loop0Store (after loop0Cell (after loop0Slice (after loop0Cond V))))
  refine ⟨(same _ (by decide +kernel) (by decide +kernel)).trans hV.x, (same _ (by decide +kernel) (by decide +kernel)).trans hV.Wih,
    (same _ (by decide +kernel) (by decide +kernel)).trans hV.Whh, (same _ (by decide +kernel) (by decide +kernel)).trans hV.bih,
    (same _ (by decide +kernel) (by decide +kernel)).trans hV.bhh, ?_, q6.trans ?_, q7.trans ?_, q8.trans ?_⟩
  · rw [loop0_ctr, (loop0_keep V main_v3_5 (by decide +kernel)).2.2, hV.ctr]
  · rw [after_of_writes_sub loop0Store _ loop0Store_writes (by decide +kernel), hh]; rfl
  · rw [after_of_writes_sub loop0Store _ loop0Store_writes (by decide +kernel), hc]; rfl
  · rw [loop0_store, hh, (loop0_keep V main_v3_8 (by decide +kernel)).2.1, (loop0_keep V main_v3_5 (by decide +kernel)).2.1,
      hV.hs, hV.ctr]; rfl

/-- Before the `k`-th run of loop 0's condition the carried buffers hold the scan's `k`-th state. -/
theorem loop0_at (W : Dev nD → Valuation τ sig (Elt F)) (c : Dev nD) {x Wih Whh bih bhh}
    (h0 : Carried0 (W c) x Wih Whh bih bhh scanInit (fun _ => (0#32 : BitVec 32))) :
    ∀ k, Carried0 (atTrip loop0Cond loop0Body W k c) x Wih Whh bih bhh (scanAt x Wih Whh bih bhh k) (fun _ => Scf.iv 0#32 1#32 k)
  | 0 => by rw [Scf.iv_zero]; exact h0
  | k + 1 => by
    have h := loop0_trip _ (loop0_at W c h0 k)
    rw [Scf.iv_succ]
    exact h

/-! ## The backward scan -/

/-- The operations of loop 1's condition: the counter compared with 512. -/
abbrev loop1Cond : List (HloOp τ sig (Elt F)) :=
  [nullary main_while1c_c_22 (constantI S_ 32 512#32),
    binary main_v8_5 main_while1c_c_22 main_while1c_v53 (cmpi .slt)]

/-- The stretches of loop 1's body. -/
abbrev loop1Body : List (List (HloOp τ sig (Elt F))) := [loop1Slice, loop1Cell, loop1Store, loop1Carry]

/-- The references loop 1's condition writes. -/
abbrev loop1Cond_W : List (Ref sig .tc) := [main_while1c_c_22, main_while1c_v53]

theorem loop1Cond_writes : (loop1Cond : List (HloOp τ sig (Elt F))).Forall fun op => op.writes ⊆ (loop1Cond_W.map (Proc.devRef (τ := τ) .tc)).toFinset :=
  forall_writes_sub_of_map rfl

theorem loop1Body_plain : Plain (loop1Body (F := F)) :=
  .cons loop1Slice_sub (hf := loop1Slice_fresh) (.cons loop1Cell_sub (hf := loop1Cell_fresh)
    (.cons loop1Store_sub (hf := loop1Store_fresh) (.cons loop1Carry_sub (hf := loop1Carry_fresh) .nil)))

/-- The slice stretch reads the row at the counter. -/
theorem loop1_row (V : Valuation τ sig (Elt F)) :
    after loop1Slice V (Proc.devRef .tc main_while1b_v53) = rowAt (V (Proc.devRef .tc main_v8_0)) (V (Proc.devRef .tc main_v8_5)) := by
  unfold rowAt
  after_results_entrywise [cast_eq]

/-- The cell stretch computes the new cell state. -/
theorem loop1_cell (V : Valuation τ sig (Elt F)) :
    after loop1Cell V (Proc.devRef .tc main_while1b_v84)
      = cellOf (gates (V (Proc.devRef .tc main_v8_1)) (V (Proc.devRef .tc main_v8_2)) (V (Proc.devRef .tc main_v8_3)) (V (Proc.devRef .tc main_v8_4))
          (V (Proc.devRef .tc main_while1b_v53)) (V (Proc.devRef .tc main_v8_6))) (V (Proc.devRef .tc main_v8_7)) := by
  after_results_simp
  rfl

/-- The cell stretch computes the new hidden state. -/
theorem loop1_hid (V : Valuation τ sig (Elt F)) :
    after loop1Cell V (Proc.devRef .tc main_while1b_v86)
      = hidOf (gates (V (Proc.devRef .tc main_v8_1)) (V (Proc.devRef .tc main_v8_2)) (V (Proc.devRef .tc main_v8_3)) (V (Proc.devRef .tc main_v8_4))
          (V (Proc.devRef .tc main_while1b_v53)) (V (Proc.devRef .tc main_v8_6))) (V (Proc.devRef .tc main_v8_7)) := by
  after_results_simp
  rfl

/-- The store stretch replaces the row at the counter. -/
theorem loop1_store (V : Valuation τ sig (Elt F)) :
    after loop1Store V (Proc.devRef .tc main_while1b_v87)
      = storeAt (V (Proc.devRef .tc main_v8_8)) (V (Proc.devRef .tc main_while1b_v86)) (V (Proc.devRef .tc main_v8_5)) := by
  unfold storeAt
  after_results_entrywise [cast_eq]

/-- The carry stretch steps the counter. -/
theorem loop1_ctr (V : Valuation τ sig (Elt F)) :
    after loop1Carry V (Proc.devRef .tc main_v8_5) = addi (V (Proc.devRef .tc main_v8_5)) (constantI S_ 32 1#32) := by
  after_results
  rfl

/-- The carry stretch copies the new values back. -/
theorem loop1_copies (V : Valuation τ sig (Elt F)) :
    after loop1Carry V (Proc.devRef .tc main_v8_6) = V (Proc.devRef .tc main_while1b_v86)
      ∧ after loop1Carry V (Proc.devRef .tc main_v8_7) = V (Proc.devRef .tc main_while1b_v84)
      ∧ after loop1Carry V (Proc.devRef .tc main_v8_8) = V (Proc.devRef .tc main_while1b_v87) := by
  refine ⟨?_, ?_, ?_⟩ <;> · after_results; rfl

/-- Loop 1's carried buffers hold these values. -/
structure Carried1 (V : Valuation τ sig (Elt F)) (x : (⟨S512x1536, .f32⟩ : BufTy).Contents (Elt F))
    (Wih : (⟨S1536x1536, .f32⟩ : BufTy).Contents (Elt F)) (Whh : (⟨S1536x384, .f32⟩ : BufTy).Contents (Elt F))
    (bih bhh : (⟨S1536, .f32⟩ : BufTy).Contents (Elt F)) (s : ScanState F) (ctr : (⟨S_, .i32⟩ : BufTy).Contents (Elt F)) : Prop where
  x : V (Proc.devRef .tc main_v8_0) = x
  Wih : V (Proc.devRef .tc main_v8_1) = Wih
  Whh : V (Proc.devRef .tc main_v8_2) = Whh
  bih : V (Proc.devRef .tc main_v8_3) = bih
  bhh : V (Proc.devRef .tc main_v8_4) = bhh
  ctr : V (Proc.devRef .tc main_v8_5) = ctr
  h : V (Proc.devRef .tc main_v8_6) = s.h
  c : V (Proc.devRef .tc main_v8_7) = s.c
  hs : V (Proc.devRef .tc main_v8_8) = s.hs

/-- The references one trip of loop 1 writes before its last stretch. -/
abbrev loop1Temps_W : List (Ref sig .tc) := loop1Cond_W ++ loop1Slice_W ++ loop1Cell_W ++ loop1Store_W

/-- What the first stretches of a trip do not write they keep. -/
theorem loop1_keep (V : Valuation τ sig (Elt F)) (r : Ref sig .tc) (h : r ∉ loop1Temps_W) :
    after loop1Slice (after loop1Cond V) (Proc.devRef .tc r) = V (Proc.devRef .tc r)
      ∧ after loop1Cell (after loop1Slice (after loop1Cond V)) (Proc.devRef .tc r) = V (Proc.devRef .tc r)
      ∧ after loop1Store (after loop1Cell (after loop1Slice (after loop1Cond V))) (Proc.devRef .tc r) = V (Proc.devRef .tc r) := by
  simp only [loop1Temps_W, List.mem_append, not_or] at h
  obtain ⟨⟨⟨h1, h2⟩, h3⟩, h4⟩ := h
  have e1 : after loop1Slice (after loop1Cond V) (Proc.devRef .tc r) = V (Proc.devRef .tc r) := by
    rw [after_of_writes_sub loop1Slice _ loop1Slice_writes h2, after_of_writes_sub loop1Cond _ loop1Cond_writes h1]
  have e2 : after loop1Cell (after loop1Slice (after loop1Cond V)) (Proc.devRef .tc r) = V (Proc.devRef .tc r) := by
    rw [after_of_writes_sub loop1Cell _ loop1Cell_writes h3, e1]
  exact ⟨e1, e2, by rw [after_of_writes_sub loop1Store _ loop1Store_writes h4, e2]⟩

/-- One trip of loop 1 takes the carried values one cell step on. -/
theorem loop1_trip (V : Valuation τ sig (Elt F)) {x Wih Whh bih bhh s ctr} (hV : Carried1 V x Wih Whh bih bhh s ctr) :
    Carried1 (afterL loop1Body (after loop1Cond V)) x Wih Whh bih bhh (cellStep x Wih Whh bih bhh ctr s)
      (addi ctr (constantI S_ 32 1#32)) := by
  simp only [afterL_cons, afterL_nil]
  have hrow : after loop1Slice (after loop1Cond V) (Proc.devRef .tc main_while1b_v53) = rowAt x ctr := by
    rw [loop1_row, after_of_writes_sub loop1Cond _ loop1Cond_writes (by decide +kernel),
      after_of_writes_sub loop1Cond _ loop1Cond_writes (by decide +kernel), hV.x, hV.ctr]
  have hc : after loop1Cell (after loop1Slice (after loop1Cond V)) (Proc.devRef .tc main_while1b_v84)
      = cellOf (gates Wih Whh bih bhh (rowAt x ctr) s.h) s.c := by
    rw [loop1_cell, hrow, (loop1_keep V main_v8_1 (by decide +kernel)).1, (loop1_keep V main_v8_2 (by decide +kernel)).1,
      (loop1_keep V main_v8_3 (by decide +kernel)).1, (loop1_keep V main_v8_4 (by decide +kernel)).1,
      (loop1_keep V main_v8_6 (by decide +kernel)).1, (loop1_keep V main_v8_7 (by decide +kernel)).1,
      hV.Wih, hV.Whh, hV.bih, hV.bhh, hV.h, hV.c]
  have hh : after loop1Cell (after loop1Slice (after loop1Cond V)) (Proc.devRef .tc main_while1b_v86)
      = hidOf (gates Wih Whh bih bhh (rowAt x ctr) s.h) s.c := by
    rw [loop1_hid, hrow, (loop1_keep V main_v8_1 (by decide +kernel)).1, (loop1_keep V main_v8_2 (by decide +kernel)).1,
      (loop1_keep V main_v8_3 (by decide +kernel)).1, (loop1_keep V main_v8_4 (by decide +kernel)).1,
      (loop1_keep V main_v8_6 (by decide +kernel)).1, (loop1_keep V main_v8_7 (by decide +kernel)).1,
      hV.Wih, hV.Whh, hV.bih, hV.bhh, hV.h, hV.c]
  have same : ∀ r : Ref sig .tc, r ∉ loop1Temps_W → r ∉ loop1Carry_W →
      after loop1Carry (after loop1Store (after loop1Cell (after loop1Slice (after loop1Cond V)))) (Proc.devRef .tc r)
        = V (Proc.devRef .tc r) := fun r h h' => by
    rw [after_of_writes_sub loop1Carry _ loop1Carry_writes h', (loop1_keep V r h).2.2]
  obtain ⟨q6, q7, q8⟩ := loop1_copies (after loop1Store (after loop1Cell (after loop1Slice (after loop1Cond V))))
  refine ⟨(same _ (by decide +kernel) (by decide +kernel)).trans hV.x, (same _ (by decide +kernel) (by decide +kernel)).trans hV.Wih,
    (same _ (by decide +kernel) (by decide +kernel)).trans hV.Whh, (same _ (by decide +kernel) (by decide +kernel)).trans hV.bih,
    (same _ (by decide +kernel) (by decide +kernel)).trans hV.bhh, ?_, q6.trans ?_, q7.trans ?_, q8.trans ?_⟩
  · rw [loop1_ctr, (loop1_keep V main_v8_5 (by decide +kernel)).2.2, hV.ctr]
  · rw [after_of_writes_sub loop1Store _ loop1Store_writes (by decide +kernel), hh]; rfl
  · rw [after_of_writes_sub loop1Store _ loop1Store_writes (by decide +kernel), hc]; rfl
  · rw [loop1_store, hh, (loop1_keep V main_v8_8 (by decide +kernel)).2.1, (loop1_keep V main_v8_5 (by decide +kernel)).2.1,
      hV.hs, hV.ctr]; rfl

/-- Before the `k`-th run of loop 1's condition the carried buffers hold the scan's `k`-th state. -/
theorem loop1_at (W : Dev nD → Valuation τ sig (Elt F)) (c : Dev nD) {x Wih Whh bih bhh}
    (h0 : Carried1 (W c) x Wih Whh bih bhh scanInit (fun _ => (0#32 : BitVec 32))) :
    ∀ k, Carried1 (atTrip loop1Cond loop1Body W k c) x Wih Whh bih bhh (scanAt x Wih Whh bih bhh k) (fun _ => Scf.iv 0#32 1#32 k)
  | 0 => by rw [Scf.iv_zero]; exact h0
  | k + 1 => by
    have h := loop1_trip _ (loop1_at W c h0 k)
    rw [Scf.iv_succ]
    exact h

end Cert.ReferenceIdeal.Scan

end
-- ==== Proof.RefRun.lean ====
/-
  The reference's run: both scans and the span scorer after them, from any memory with zero counters; what the
  result holds and that no argument changes.
-/
module

public import proofs.«01_k».proof.Proof.RefScan
public import proofs.«01_k».proof.Defs
public import Idealize.ShloMosaic.Lib.Pipeline.Regions
public import Idealize.ShloMosaic.Lib.StableHlo.RunRead
public import Idealize.ShloMosaic.Lib.Scf.ExitTest
public import Idealize.ShloMosaic.Lib.Scf.Counter
public import Idealize.ShloMosaic.Lib.Quiescent

@[expose] public section

set_option maxRecDepth 16384

noncomputable section

namespace Cert.ReferenceIdeal.Scan

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.Pipeline (CSeg ucRefs sub_ucRefs)

variable {F : FTy → Type} [FloatOps F]

/-! ## The span scorer as plain functions -/

/-- The begin of every span, `i` at `(i, j)`. -/
def begins : (⟨S512x30, .i32⟩ : BufTy).Contents (Elt F) :=
  addi (broadcastInDim S512x30 ![0, 1] bcast_S512x1_S512x30_0_1 (broadcastInDim S512x1 ![0] bcast_S512_S512x1_0 (iotaInDim S512 32 0)))
    (broadcastInDim S512x30 ![0, 1] bcast_S1x30_S512x30_0_1 (broadcastInDim S1x30 ![] bcast_S_S1x30 (constantI S_ 32 0#32)))

/-- The end of every span, `i + j` at `(i, j)`. -/
def ends : (⟨S512x30, .i32⟩ : BufTy).Contents (Elt F) :=
  addi (begins (F := F)) (broadcastInDim S512x30 ![0, 1] bcast_S1x30_S512x30_0_1 (broadcastInDim S1x30 ![1] bcast_S30_S1x30_1 (iotaInDim S30 32 0)))

/-- Whether the end lies inside the sequence. -/
def inside : (⟨S512x30, .i1⟩ : BufTy).Contents (Elt F) :=
  cmpi .slt (ends (F := F)) (broadcastInDim S512x30 ![] bcast_S_S512x30 (constantI S_ 32 512#32))

/-- The last row at most. -/
def clipped : (⟨S512x30, .i32⟩ : BufTy).Contents (Elt F) :=
  minsi (ends (F := F)) (broadcastInDim S512x30 ![] bcast_S_S512x30 (constantI S_ 32 511#32))

/-- Rows `i` of the table, an index below zero counted from the end. -/
def rowsAt (i : (⟨S512x30, .i32⟩ : BufTy).Contents (Elt F)) (e : (⟨S512x768, .f32⟩ : BufTy).Contents (Elt F)) :
    (⟨S512x30x768, .f32⟩ : BufTy).Contents (Elt F) :=
  Host.gather gather_S512x768_S512x30x1_S512x30x768_2_0_n_n_0_2_1768 e
    (broadcastInDim S512x30x1 ![0, 1] bcast_S512x30_S512x30x1_0_1
      (select (cmpi .slt i (broadcastInDim S512x30 ![] bcast_S_S512x30 (constantI S_ 32 0#32)))
        (addi i (broadcastInDim S512x30 ![] bcast_S_S512x30 (constantI S_ 32 512#32))) i))

/-- The state table: the forward rows beside the backward rows in the input's order. -/
def table (hf hb : (⟨S512x384, .f32⟩ : BufTy).Contents (Elt F)) : (⟨S512x768, .f32⟩ : BufTy).Contents (Elt F) :=
  concatenate S512x768 1 [⟨S512x384, hf⟩, ⟨S512x384, Host.reverse [0] hb⟩] concatenates_S512x384_S512x384_S512x768_d1

/-- The hidden layer before its rectifier. -/
def hidden (e : (⟨S512x768, .f32⟩ : BufTy).Contents (Elt F)) (Wf : (⟨S384x1536, .f32⟩ : BufTy).Contents (Elt F))
    (bf : (⟨S384, .f32⟩ : BufTy).Contents (Elt F)) : (⟨S512x30x384, .f32⟩ : BufTy).Contents (Elt F) :=
  addf (Host.dotGeneral dot_S512x30x1536_S1536x384_S512x30x384_2_0_01_1_n_n none
      (concatenate S512x30x1536 2 [⟨S512x30x768, rowsAt begins e⟩, ⟨S512x30x768, rowsAt clipped e⟩]
        concatenates_S512x30x768_S512x30x768_S512x30x1536_d2)
      (transpose S1536x384 [1, 0] Wf transposes_S384x1536_S1536x384_1_0))
    (broadcastInDim S512x30x384 ![0, 1, 2] bcast_S1x1x384_S512x30x384_0_1_2 (broadcastInDim S1x1x384 ![2] bcast_S384_S1x1x384_2 bf))

/-- The rectifier. -/
def relu3 (y : (⟨S512x30x384, .f32⟩ : BufTy).Contents (Elt F)) : (⟨S512x30x384, .f32⟩ : BufTy).Contents (Elt F) :=
  maximumf y (broadcastInDim S512x30x384 ![] bcast_S_S512x30x384 (constant S_ .f32 0x00000000#32))

/-- The output layer. -/
def outLayer (y : (⟨S512x30x384, .f32⟩ : BufTy).Contents (Elt F)) (Wo : (⟨S1x384, .f32⟩ : BufTy).Contents (Elt F))
    (bo : (⟨S1, .f32⟩ : BufTy).Contents (Elt F)) : (⟨S512x30x1, .f32⟩ : BufTy).Contents (Elt F) :=
  addf (Host.dotGeneral dot_S512x30x384_S384x1_S512x30x1_2_0_01_1_n_n none y (transpose S384x1 [1, 0] Wo transposes_S1x384_S384x1_1_0))
    (broadcastInDim S512x30x1 ![0, 1, 2] bcast_S1x1x1_S512x30x1_0_1_2 (broadcastInDim S1x1x1 ![2] bcast_S1_S1x1x1_2 bo))

/-- The scores: the output layer inside the sequence, zero past its end. -/
def scores (hf hb : (⟨S512x384, .f32⟩ : BufTy).Contents (Elt F)) (Wf : (⟨S384x1536, .f32⟩ : BufTy).Contents (Elt F))
    (bf : (⟨S384, .f32⟩ : BufTy).Contents (Elt F)) (Wo : (⟨S1x384, .f32⟩ : BufTy).Contents (Elt F))
    (bo : (⟨S1, .f32⟩ : BufTy).Contents (Elt F)) : (⟨S512x30x1, .f32⟩ : BufTy).Contents (Elt F) :=
  select (broadcastInDim S512x30x1 ![0, 1] bcast_S512x30_S512x30x1_0_1 (inside (F := F)))
    (outLayer (relu3 (hidden (table hf hb) Wf bf)) Wo bo)
    (broadcastInDim S512x30x1 ![] bcast_S_S512x30x1 (constant S_ .f32 0x00000000#32))

/-! ## What the stretches around the loops leave -/

/-- The stretches before the forward scan, between the scans, and after them. -/
abbrev preI : List (List (HloOp τ sig (Elt F))) := [preOps]
abbrev midI : List (List (HloOp τ sig (Elt F))) := [midOps]
abbrev postI : List (List (HloOp τ sig (Elt F))) := [pairOps1, pairOps2, reluOps, outOps, maskOps]

theorem preI_plain : Plain (preI (F := F)) := .cons preOps_sub (hf := preOps_fresh) .nil
theorem midI_plain : Plain (midI (F := F)) := .cons midOps_sub (hf := midOps_fresh) .nil
theorem postI_plain : Plain (postI (F := F)) :=
  .cons pairOps1_sub (hf := pairOps1_fresh) (.cons pairOps2_sub (hf := pairOps2_fresh) (.cons reluOps_sub (hf := reluOps_fresh)
    (.cons outOps_sub (hf := outOps_fresh) (.cons maskOps_sub (hf := maskOps_fresh) .nil))))

/-- Before the forward scan its carried buffers hold its arguments and zeros. -/
theorem pre_carried (V : Valuation τ sig (Elt F)) :
    Carried0 (after preOps V) (V (Proc.devRef .tc main_arg0)) (V (Proc.devRef .tc main_arg1)) (V (Proc.devRef .tc main_arg2))
      (V (Proc.devRef .tc main_arg3)) (V (Proc.devRef .tc main_arg4)) scanInit (fun _ => (0#32 : BitVec 32)) := by
  constructor <;> · after_results_simp; try rfl

/-- Before the backward scan its carried buffers hold the reversed input, its arguments and zeros. -/
theorem mid_carried (V : Valuation τ sig (Elt F)) :
    Carried1 (after midOps V) (Host.reverse [0] (V (Proc.devRef .tc main_arg0))) (V (Proc.devRef .tc main_arg5)) (V (Proc.devRef .tc main_arg6))
      (V (Proc.devRef .tc main_arg7)) (V (Proc.devRef .tc main_arg8)) scanInit (fun _ => (0#32 : BitVec 32)) := by
  constructor <;> · after_results_simp; try rfl

/-- The first window makes the table, the spans and the begin rows. -/
theorem pair1 (V : Valuation τ sig (Elt F)) :
    after pairOps1 V (Proc.devRef .tc main_v10) = table (V (Proc.devRef .tc main_v3_8)) (V (Proc.devRef .tc main_v8_8))
      ∧ after pairOps1 V (Proc.devRef .tc main_v20) = ends
      ∧ after pairOps1 V (Proc.devRef .tc main_v22) = inside
      ∧ after pairOps1 V (Proc.devRef .tc main_v29) = rowsAt begins (table (V (Proc.devRef .tc main_v3_8)) (V (Proc.devRef .tc main_v8_8))) := by
  refine ⟨?_, ?_, ?_, ?_⟩ <;> · after_results_simp; rfl

/-- The second window makes the hidden layer. -/
theorem pair2 (V : Valuation τ sig (Elt F)) (e : (⟨S512x768, .f32⟩ : BufTy).Contents (Elt F))
    (h10 : V (Proc.devRef .tc main_v10) = e) (h20 : V (Proc.devRef .tc main_v20) = ends (F := F))
    (h29 : V (Proc.devRef .tc main_v29) = rowsAt begins e) :
    after pairOps2 V (Proc.devRef .tc main_v44) = hidden e (V (Proc.devRef .tc main_arg9)) (V (Proc.devRef .tc main_arg10)) := by
  after_results
  rw [h10, h20, h29]
  rfl

/-- The rectifier's stretch. -/
theorem relu_eq (V : Valuation τ sig (Elt F)) :
    after reluOps V (Proc.devRef .tc main_v45) = relu3 (V (Proc.devRef .tc main_v44)) := by
  unfold relu3
  after_results_entrywise [cast_eq]

/-- The output layer's stretch. -/
theorem out_eq (V : Valuation τ sig (Elt F)) :
    after outOps V (Proc.devRef .tc main_v50) = outLayer (V (Proc.devRef .tc main_v45)) (V (Proc.devRef .tc main_arg11)) (V (Proc.devRef .tc main_arg12))
      ∧ after outOps V (Proc.devRef .tc main_v51) = broadcastInDim S512x30x1 ![0, 1] bcast_S512x30_S512x30x1_0_1 (V (Proc.devRef .tc main_v22))
      ∧ after outOps V (Proc.devRef .tc main_cst_13) = constant S_ .f32 0x00000000#32 := by
  refine ⟨?_, ?_, ?_⟩ <;> · after_results_simp; try rfl

/-- The mask's stretch. -/
theorem mask_eq (V : Valuation τ sig (Elt F)) :
    after maskOps V (Proc.devRef .tc main_v52)
      = select (V (Proc.devRef .tc main_v51)) (V (Proc.devRef .tc main_v50)) (broadcastInDim S512x30x1 ![] bcast_S_S512x30x1 (V (Proc.devRef .tc main_cst_13))) := by
  after_results_entrywise [cast_eq]

/-- What the stretches after the scans leave in the result. -/
theorem post_result (V : Valuation τ sig (Elt F)) :
    afterL postI V (Proc.devRef .tc main_v52)
      = scores (V (Proc.devRef .tc main_v3_8)) (V (Proc.devRef .tc main_v8_8)) (V (Proc.devRef .tc main_arg9)) (V (Proc.devRef .tc main_arg10))
          (V (Proc.devRef .tc main_arg11)) (V (Proc.devRef .tc main_arg12)) := by
  simp only [afterL_cons, afterL_nil]
  obtain ⟨p10, p20, p22, p29⟩ := pair1 V
  have k9 : after pairOps1 V (Proc.devRef .tc main_arg9) = V (Proc.devRef .tc main_arg9) := after_of_writes_sub pairOps1 _ pairOps1_writes (by decide +kernel)
  have k10 : after pairOps1 V (Proc.devRef .tc main_arg10) = V (Proc.devRef .tc main_arg10) := after_of_writes_sub pairOps1 _ pairOps1_writes (by decide +kernel)
  have hh := pair2 (after pairOps1 V) _ p10 p20 p29
  rw [k9, k10] at hh
  have keep3 : ∀ r : Ref sig .tc, r ∉ pairOps1_W → r ∉ pairOps2_W → r ∉ reluOps_W →
      after reluOps (after pairOps2 (after pairOps1 V)) (Proc.devRef .tc r) = V (Proc.devRef .tc r) := fun r h1 h2 h3 => by
    rw [after_of_writes_sub reluOps _ reluOps_writes h3, after_of_writes_sub pairOps2 _ pairOps2_writes h2,
      after_of_writes_sub pairOps1 _ pairOps1_writes h1]
  have k22 : after reluOps (after pairOps2 (after pairOps1 V)) (Proc.devRef .tc main_v22) = inside (F := F) := by
    rw [after_of_writes_sub reluOps _ reluOps_writes (by decide +kernel), after_of_writes_sub pairOps2 _ pairOps2_writes (by decide +kernel), p22]
  obtain ⟨o50, o51, oc⟩ := out_eq (after reluOps (after pairOps2 (after pairOps1 V)))
  rw [mask_eq, o50, o51, oc, relu_eq, hh, k22, keep3 main_arg11 (by decide +kernel) (by decide +kernel) (by decide +kernel),
    keep3 main_arg12 (by decide +kernel) (by decide +kernel) (by decide +kernel)]
  rfl

/-! ## The conditions -/

variable (m : (ℓ : Loc nD τ sig) → Buf (Elt F) ℓ) (ρ : Dev nD → PrngReg)

/-- The buffers before the forward scan. -/
abbrev entry0 : Dev nD → Valuation τ sig (Elt F) := fun c => afterL preI (launchContents m c)
/-- The buffers after the forward scan. -/
abbrev exit0 : Dev nD → Valuation τ sig (Elt F) := fun c => after loop0Cond (atTrip loop0Cond loop0Body (entry0 m) 512 c)
/-- The buffers before the backward scan. -/
abbrev entry1 : Dev nD → Valuation τ sig (Elt F) := fun c => afterL midI (exit0 m c)
/-- The buffers after the backward scan. -/
abbrev exit1 : Dev nD → Valuation τ sig (Elt F) := fun c => after loop1Cond (atTrip loop1Cond loop1Body (entry1 m) 512 c)
/-- The buffers at the end. -/
abbrev final : Dev nD → Valuation τ sig (Elt F) := fun c => afterL postI (exit1 m c)

-- unification may unfold plain definitions in a metavariable's type, so that a rule for any thread applies at the TensorCore's
set_option backward.isDefEq.respectTransparency.types false in
/-- Loop 0's condition holds before trip `k` exactly when `k < 512`. -/
theorem loop0_cond : CondSpec (pcfgs (F := F)) defs₀ loops (main_while0_cond (F := F)) loop0Cond loop0Body (entry0 m) 512 := by
  intro k hk c bd
  have hctr : atTrip loop0Cond loop0Body (entry0 m) k c (Proc.devRef .tc main_v3_5) = fun _ => Scf.iv 0#32 1#32 k :=
    (loop0_at (entry0 m) c (pre_carried _) k).ctr
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip loop0Cond loop0Body (entry0 m) k c) main_v3_5 HostLoop.idx0)
        (HloOp.result _ (atTrip loop0Cond loop0Body (entry0 m) k c) main_while0c_c_22 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

-- unification may unfold plain definitions in a metavariable's type, so that a rule for any thread applies at the TensorCore's
set_option backward.isDefEq.respectTransparency.types false in
/-- Loop 1's condition holds before trip `k` exactly when `k < 512`. -/
theorem loop1_cond : CondSpec (pcfgs (F := F)) defs₀ loops (main_while1_cond (F := F)) loop1Cond loop1Body (entry1 m) 512 := by
  intro k hk c bd
  have hctr : atTrip loop1Cond loop1Body (entry1 m) k c (Proc.devRef .tc main_v8_5) = fun _ => Scf.iv 0#32 1#32 k :=
    (loop1_at (entry1 m) c (mid_carried _) k).ctr
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip loop1Cond loop1Body (entry1 m) k c) main_v8_5 HostLoop.idx0)
        (HloOp.result _ (atTrip loop1Cond loop1Body (entry1 m) k c) main_while1c_c_22 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-! ## The run -/

-- the ghost state the proof runs over: nothing in it is used, since no kernel runs
local notation "𝕄" => MT nD τ sig Unit (Elt F) ℕ (Option PUnit) ℕ

/-- No kernel, so nothing is admitted and no ticket is issued. -/
abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

/-- What rides beside the buffers: the core owes nothing. -/
abbrev Owes (c : Dev nD) : sProp 𝕄 := iprop(∃ W, owes (c : Thread nD τ) (0 : CellTallies nD τ sig Unit) W)

/-- A condition's specification with `Owes` beside the buffers. -/
theorem loopCond_of {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Owes cond condOps bodyI W₀ n := fun k hk c bd => by
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Owes c)
        ⊢ (iprop(⌜v = 1#1 ↔ k < n⌝ ∗ boundary (c : Thread nD τ) ∗ held (c : Thread nD τ) (ucRefs τ sig) (after condOps (atTrip condOps bodyI W₀ k c)) ∗ Owes c) : sProp 𝕄) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]; · isplitl [Hbd] <;> iassumption
  iexact HR

/-- The two loops as segments. -/
abbrev seg0 : CSeg (pcfgs (F := F)) noAdm defs₀ Variants.none noL noLv loops noTk :=
  loopSeg _ _ _ _ _ _ _ _ 0 main_while0_cond main_while0_body rfl loop0Cond loop0Body loop0Body_plain
    (by rw [loop0_body_chain]; rfl) 512 (entry0 m) Owes (loopCond_of (loop0_cond m))
abbrev seg1 : CSeg (pcfgs (F := F)) noAdm defs₀ Variants.none noL noLv loops noTk :=
  loopSeg _ _ _ _ _ _ _ _ 1 main_while1_cond main_while1_body rfl loop1Cond loop1Body loop1Body_plain
    (by rw [loop1_body_chain]; rfl) 512 (entry1 m) Owes (loopCond_of (loop1_cond m))

/-- @main's segments: the stretches before the loops, between them and after them, and the loops. -/
def mainSegs : List (CSeg (pcfgs (F := F)) noAdm defs₀ Variants.none noL noLv loops noTk) :=
  segsOf _ _ _ _ _ _ _ _ Owes preI preI_plain (launchContents m)
    ++ seg0 m :: (segsOf _ _ _ _ _ _ _ _ Owes midI midI_plain (exit0 m)
      ++ seg1 m :: segsOf _ _ _ _ _ _ _ _ Owes postI postI_plain (exit1 m))

theorem mainSegs_prog : (mainSegs m).map CSeg.prog
    = [seq preOps, HostLoop.enter 0, seq midOps, HostLoop.enter 1, seq pairOps1, seq pairOps2, seq reluOps, seq outOps, seq maskOps] := by
  unfold mainSegs
  rw [List.map_append, List.map_cons, List.map_append, List.map_cons, segsOf_prog, segsOf_prog, segsOf_prog]
  rfl

theorem mainSegs_chains :
    CSeg.Chains (fun c => iprop(held (c : Thread nD τ) (ucRefs τ sig) (launchContents m c) ∗ Owes c)) (mainSegs m)
      (fun c => iprop(iprop(held (c : Thread nD τ) (ucRefs τ sig) (final m c)) ∗ ∃ W, owes (c : Thread nD τ) (0 : CellTallies nD τ sig Unit) W)) := by
  unfold mainSegs
  exact CSeg.Chains.append (segsOf_chains _ _ _ _ _ _ _ _ Owes preI preI_plain _) ⟨fun _ => .rfl,
    CSeg.Chains.append (segsOf_chains _ _ _ _ _ _ _ _ Owes midI midI_plain _) ⟨fun _ => .rfl,
      segsOf_chains _ _ _ _ _ _ _ _ Owes postI postI_plain _⟩⟩

/-- From any memory with zero counters every fair execution of @main ends, every tensor at the fold's last contents. -/
theorem run_final [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noL noLv loops noTk m ρ main (mainSegs m)
    (fun c Q => by
      rw [main_chain c]
      show wp _ _ _ (Pipeline.chain ((mainSegs m).map CSeg.prog)) Q ⊢ _
      rw [mainSegs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owes c))
    (Tₙ := fun c => iprop(held (c : Thread nD τ) (ucRefs τ sig) (final m c)))
    (hch := mainSegs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## The run read back -/

/-- Every reference the program writes. -/
abbrev written : List (Ref sig .tc) :=
  preOps_W ++ midOps_W ++ pairOps1_W ++ pairOps2_W ++ reluOps_W ++ outOps_W ++ maskOps_W
    ++ (loop0Temps_W ++ loop0Carry_W) ++ (loop1Temps_W ++ loop1Carry_W)

/-- A buffer that no operation of a loop writes holds at every trip what it held before the loop. -/
theorem atTrip_keep {condOps : List (HloOp τ sig (Elt F))} {bodyI : List (List (HloOp τ sig (Elt F)))} (W : Dev nD → Valuation τ sig (Elt F))
    (c : Dev nD) (r : Ref sig .tc) (h : ∀ V, afterL bodyI (after condOps V) (Proc.devRef .tc r) = V (Proc.devRef .tc r)) :
    ∀ k, atTrip condOps bodyI W k c (Proc.devRef .tc r) = W c (Proc.devRef .tc r)
  | 0 => rfl
  | k + 1 => (h _).trans (atTrip_keep W c r h k)

/-- Loop 0 and the test that leaves it keep what they do not write. -/
theorem loop0_exit_keep (W : Dev nD → Valuation τ sig (Elt F)) (c : Dev nD) (r : Ref sig .tc) (h : r ∉ loop0Temps_W) (h' : r ∉ loop0Carry_W) (k : ℕ) :
    after loop0Cond (atTrip loop0Cond loop0Body W k c) (Proc.devRef .tc r) = W c (Proc.devRef .tc r) := by
  have hc : r ∉ loop0Cond_W := fun hm => h (by simp only [loop0Temps_W, List.mem_append]; exact .inl (.inl (.inl hm)))
  rw [after_of_writes_sub loop0Cond _ loop0Cond_writes hc]
  refine atTrip_keep W c r (fun V => ?_) k
  simp only [afterL_cons, afterL_nil]
  rw [after_of_writes_sub loop0Carry _ loop0Carry_writes h', (loop0_keep V r h).2.2]

/-- Loop 1 and the test that leaves it keep what they do not write. -/
theorem loop1_exit_keep (W : Dev nD → Valuation τ sig (Elt F)) (c : Dev nD) (r : Ref sig .tc) (h : r ∉ loop1Temps_W) (h' : r ∉ loop1Carry_W) (k : ℕ) :
    after loop1Cond (atTrip loop1Cond loop1Body W k c) (Proc.devRef .tc r) = W c (Proc.devRef .tc r) := by
  have hc : r ∉ loop1Cond_W := fun hm => h (by simp only [loop1Temps_W, List.mem_append]; exact .inl (.inl (.inl hm)))
  rw [after_of_writes_sub loop1Cond _ loop1Cond_writes hc]
  refine atTrip_keep W c r (fun V => ?_) k
  simp only [afterL_cons, afterL_nil]
  rw [after_of_writes_sub loop1Carry _ loop1Carry_writes h', (loop1_keep V r h).2.2]

/-- What no operation writes keeps its launch contents through the forward scan, to the backward scan's start, through it, and to the end. -/
theorem keep_all (c : Dev nD) (r : Ref sig .tc) (h : r ∉ written) :
    exit0 m c (Proc.devRef .tc r) = m ((c.tc : Thread nD τ).loc r) ∧ exit1 m c (Proc.devRef .tc r) = m ((c.tc : Thread nD τ).loc r)
      ∧ final m c (Proc.devRef .tc r) = m ((c.tc : Thread nD τ).loc r) := by
  simp only [written, List.mem_append, not_or] at h
  have h' := h
  obtain ⟨⟨⟨⟨⟨⟨⟨⟨h1, h2⟩, h3⟩, h4⟩, h5⟩, h6⟩, h7⟩, h8, h9⟩, h10, h11⟩ := h
  have t0 : r ∉ loop0Temps_W := by simp only [loop0Temps_W, List.mem_append, not_or]; exact h8
  have t1 : r ∉ loop1Temps_W := by simp only [loop1Temps_W, List.mem_append, not_or]; exact h10
  have e0 : exit0 m c (Proc.devRef .tc r) = m ((c.tc : Thread nD τ).loc r) := by
    show after loop0Cond _ _ = _
    rw [loop0_exit_keep _ c r t0 h9]
    simp only [afterL_cons, afterL_nil]
    rw [after_of_writes_sub preOps _ preOps_writes h1]
  have e1 : exit1 m c (Proc.devRef .tc r) = m ((c.tc : Thread nD τ).loc r) := by
    show after loop1Cond _ _ = _
    rw [loop1_exit_keep _ c r t1 h11]
    simp only [afterL_cons, afterL_nil]
    rw [after_of_writes_sub midOps _ midOps_writes h2]
    exact e0
  refine ⟨e0, e1, ?_⟩
  simp only [afterL_cons, afterL_nil]
  rw [after_of_writes_sub maskOps _ maskOps_writes h7, after_of_writes_sub outOps _ outOps_writes h6,
    after_of_writes_sub reluOps _ reluOps_writes h5, after_of_writes_sub pairOps2 _ pairOps2_writes h4,
    after_of_writes_sub pairOps1 _ pairOps1_writes h3]
  exact e1

/-- The value of the result: the scores of the two scans' outputs. -/
def value (c : Dev nD) : (⟨S512x30x1, .f32⟩ : BufTy).Contents (Elt F) :=
  scores
    (scanAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) 512).hs
    (scanAt (Host.reverse [0] (m ((c.tc : Thread nD τ).loc main_arg0))) (m ((c.tc : Thread nD τ).loc main_arg5)) (m ((c.tc : Thread nD τ).loc main_arg6))
      (m ((c.tc : Thread nD τ).loc main_arg7)) (m ((c.tc : Thread nD τ).loc main_arg8)) 512).hs
    (m ((c.tc : Thread nD τ).loc main_arg9)) (m ((c.tc : Thread nD τ).loc main_arg10)) (m ((c.tc : Thread nD τ).loc main_arg11))
    (m ((c.tc : Thread nD τ).loc main_arg12))

/-- The result ends at `value`. -/
theorem final_result (c : Dev nD) : final m c (Proc.devRef .tc main_v52) = value m c := by
  have f8 : exit1 m c (Proc.devRef .tc main_v3_8) = (scanAt (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) 512).hs := by
    show after loop1Cond _ _ = _
    rw [loop1_exit_keep _ c main_v3_8 (by decide +kernel) (by decide +kernel)]
    simp only [afterL_cons, afterL_nil]
    rw [after_of_writes_sub midOps _ midOps_writes (by decide +kernel)]
    show after loop0Cond _ _ = _
    rw [after_of_writes_sub loop0Cond _ loop0Cond_writes (by decide +kernel)]
    exact (loop0_at (entry0 m) c (pre_carried _) 512).hs
  have b8 : exit1 m c (Proc.devRef .tc main_v8_8) = (scanAt (Host.reverse [0] (m ((c.tc : Thread nD τ).loc main_arg0))) (m ((c.tc : Thread nD τ).loc main_arg5))
      (m ((c.tc : Thread nD τ).loc main_arg6)) (m ((c.tc : Thread nD τ).loc main_arg7)) (m ((c.tc : Thread nD τ).loc main_arg8)) 512).hs := by
    show after loop1Cond _ _ = _
    rw [after_of_writes_sub loop1Cond _ loop1Cond_writes (by decide +kernel)]
    have h := (loop1_at (entry1 m) c (mid_carried _) 512).hs
    rw [(keep_all m c main_arg0 (by decide +kernel)).1, (keep_all m c main_arg5 (by decide +kernel)).1, (keep_all m c main_arg6 (by decide +kernel)).1,
      (keep_all m c main_arg7 (by decide +kernel)).1, (keep_all m c main_arg8 (by decide +kernel)).1] at h
    exact h
  show afterL postI (exit1 m c) _ = _
  rw [post_result, f8, b8, (keep_all m c main_arg9 (by decide +kernel)).2.1, (keep_all m c main_arg10 (by decide +kernel)).2.1,
    (keep_all m c main_arg11 (by decide +kernel)).2.1, (keep_all m c main_arg12 (by decide +kernel)).2.1]
  rfl

/-- The reference's run: the result at `value`, every argument unchanged. -/
theorem run_value [∀ e, Nonempty (Elt F e)] : θ_run (defs (F := F)) (onTc (τ := τ) (main (F := F))) ⟨m, fun _ => 0, ρ⟩
    (fun r => ∀ c : Dev nD, r.2.mem ((c.tc : Thread nD τ).loc main_v52) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r h c => ⟨(h c main_v52 rfl).trans (final_result m c),
    (h c main_arg0 rfl).trans (keep_all m c main_arg0 (by decide +kernel)).2.2,
    (h c main_arg1 rfl).trans (keep_all m c main_arg1 (by decide +kernel)).2.2,
    (h c main_arg2 rfl).trans (keep_all m c main_arg2 (by decide +kernel)).2.2,
    (h c main_arg3 rfl).trans (keep_all m c main_arg3 (by decide +kernel)).2.2,
    (h c main_arg4 rfl).trans (keep_all m c main_arg4 (by decide +kernel)).2.2,
    (h c main_arg5 rfl).trans (keep_all m c main_arg5 (by decide +kernel)).2.2,
    (h c main_arg6 rfl).trans (keep_all m c main_arg6 (by decide +kernel)).2.2,
    (h c main_arg7 rfl).trans (keep_all m c main_arg7 (by decide +kernel)).2.2,
    (h c main_arg8 rfl).trans (keep_all m c main_arg8 (by decide +kernel)).2.2,
    (h c main_arg9 rfl).trans (keep_all m c main_arg9 (by decide +kernel)).2.2,
    (h c main_arg10 rfl).trans (keep_all m c main_arg10 (by decide +kernel)).2.2,
    (h c main_arg11 rfl).trans (keep_all m c main_arg11 (by decide +kernel)).2.2,
    (h c main_arg12 rfl).trans (keep_all m c main_arg12 (by decide +kernel)).2.2⟩) (run_final m ρ)

/-- The reference leaves its arguments unchanged and no counter raised. -/
theorem frame : Cert.quiescent_ReferenceIdeal := fun m ρ _ =>
  (θ_run _ _ _).mono (fun r h => ⟨fun c => (h c).2, sem_eq_zero_of_no_sems (by decide) r.2⟩) (run_value m ρ)

end Cert.ReferenceIdeal.Scan

end
-- ==== Proof.RefMath.lean ====
module
public import proofs.«01_k».proof.Proof.Lstm
public import proofs.«01_k».proof.Proof.RefRun
public import Idealize.ShloMosaic.Lib.Pointwise
public import Idealize.ShloMosaic.Lib.ValueIdx
public import Idealize.ShloMosaic.Lib.WordCmp
@[expose] public section

/-! The reference's value over the extended reals is the plain mathematics of `Cert.Lstm`. -/

set_option maxRecDepth 16384

noncomputable section

namespace Cert.ReferenceIdeal.Scan

open Idealize.ShloMosaic Idealize.ShloMosaic.TcCoe Idealize.ShloMosaic.Pointwise
open Cert.ReferenceIdeal Cert.ReferenceIdeal.Gen

/-! ## Rows and words -/

/-- The counter's word at trip `k`, read signed. -/
theorem counter_toInt (k : ℕ) (hk : k < 512) : (Scf.iv 0#32 1#32 k : BitVec 32).toInt = k := by
  have e : (Scf.iv 0#32 1#32 k : BitVec 32) = BitVec.ofNat 32 k := by simp [Scf.iv]
  have n : (BitVec.ofNat 32 k).toNat = k := by rw [BitVec.toNat_ofNat]; omega
  rw [e, BitVec.toInt_eq_toNat_of_lt (by omega), n]

/-- The start of row `k`, clamped, on both axes. -/
theorem start_row {C : ℕ} (k : ℕ) (hk : k < 512) (hr : (2 : ℕ) = 2) (v : Fin 2 → IVec S_ 32)
    (h0 : (v 0 (Shape.Idx.first h_S_)).toInt = k) (h1 : (v 1 (Shape.Idx.first h_S_)).toInt = 0) :
    Host.clampedStart (⟨2, ![512, C]⟩ : Shape) ⟨2, ![1, C]⟩ hr (fun a => (v a (Shape.Idx.first h_S_)).toInt) 0 = k
    ∧ Host.clampedStart (⟨2, ![512, C]⟩ : Shape) ⟨2, ![1, C]⟩ hr (fun a => (v a (Shape.Idx.first h_S_)).toInt) 1 = 0 :=
  ⟨Host.clampedStart_of_le _ _ _ k h0 (by show k + 1 ≤ 512; omega), Host.clampedStart_of_le _ _ _ 0 h1 (by show 0 + C ≤ C; omega)⟩

/-- Row `k` of the input, read at trip `k`. -/
theorem rowAt_apply (x : (⟨S512x1536, .f32⟩ : BufTy).Contents (Elt Ideal)) (k : ℕ) (hk : k < 512) (r : Fin 1536) :
    rowAt x (fun _ => Scf.iv 0#32 1#32 k) (ix1 r) = x (ix2 ⟨k, hk⟩ r) := by
  obtain ⟨h0, h1⟩ := start_row (C := 1536) k hk rfl
    (![fun _ => Scf.iv 0#32 1#32 k, constantI S_ 32 0#32] : Fin 2 → IVec S_ 32) (counter_toInt k hk) rfl
  pointwise [rowAt]
  refine congrArg x (congrArg₂ ix2 (Fin.ext h0) (Fin.ext ?_))
  exact (congrArg (· + r.val) h1).trans (Nat.zero_add _)

/-- The rows written so far after trip `k` has stored its own. -/
theorem storeAt_apply (hs : (⟨S512x384, .f32⟩ : BufTy).Contents (Elt Ideal)) (h : (⟨S384, .f32⟩ : BufTy).Contents (Elt Ideal))
    (k : ℕ) (hk : k < 512) (t : Fin 512) (l : Fin 384) :
    storeAt hs h (fun _ => Scf.iv 0#32 1#32 k) (ix2 t l) = if t.val = k then h (ix1 l) else hs (ix2 t l) := by
  obtain ⟨h0, h1⟩ := start_row (C := 384) k hk rfl
    (![fun _ => Scf.iv 0#32 1#32 k, constantI S_ 32 0#32] : Fin 2 → IVec S_ 32) (counter_toInt k hk) rfl
  pointwise [storeAt]
  split
  · rename_i hin
    have a : k ≤ t.val := le_of_eq_of_le h0.symm hin.1.1
    have b : t.val < k + 1 := lt_of_lt_of_eq hin.1.2 (congrArg (· + 1) h0)
    rw [if_pos (by omega)]
    refine congrArg h (congrArg ix1 (Fin.ext ?_))
    exact (congrArg (l.val - ·) h1).trans (Nat.sub_zero _)
  · rename_i hin
    rw [if_neg fun e => hin ⟨⟨(le_of_eq h0).trans (le_of_eq e.symm), lt_of_lt_of_eq (by omega : t.val < k + 1) (congrArg (· + 1) h0).symm⟩,
      (le_of_eq h1).trans (Nat.zero_le _)⟩]

/-! ## The scans -/

/-- The gates are the model's, its bias the sum of both. -/
theorem gates_apply (Wih : (⟨S1536x1536, .f32⟩ : BufTy).Contents (Elt Ideal)) (Whh : (⟨S1536x384, .f32⟩ : BufTy).Contents (Elt Ideal))
    (bih bhh : (⟨S1536, .f32⟩ : BufTy).Contents (Elt Ideal)) (row : (⟨S1536, .f32⟩ : BufTy).Contents (Elt Ideal))
    (h : (⟨S384, .f32⟩ : BufTy).Contents (Elt Ideal)) (r : Fin 1536) :
    gates Wih Whh bih bhh row h (ix1 r)
      = Lstm.pre (fun r k => Wih (ix2 r k)) (fun r k => Whh (ix2 r k)) (fun r => bih (ix1 r) + bhh (ix1 r))
          (fun k => row (ix1 k)) (fun k => h (ix1 k)) r := by
  unfold Lstm.pre
  pointwise [gates]
  exact add_assoc _ _ _

/-- The new cell state is the model's. -/
theorem cellOf_apply (G : (⟨S1536, .f32⟩ : BufTy).Contents (Elt Ideal)) (c : (⟨S384, .f32⟩ : BufTy).Contents (Elt Ideal)) (l : Fin 384) :
    cellOf G c (ix1 l) = Lstm.cell (fun r => G (ix1 r)) (fun l => c (ix1 l)) l := by
  unfold Lstm.cell Ideal.logistic
  pointwise [cellOf, sig1]

/-- The new hidden state is the model's. -/
theorem hidOf_apply (G : (⟨S1536, .f32⟩ : BufTy).Contents (Elt Ideal)) (c : (⟨S384, .f32⟩ : BufTy).Contents (Elt Ideal)) (l : Fin 384) :
    hidOf G c (ix1 l) = Lstm.hid (fun r => G (ix1 r)) (fun l => c (ix1 l)) l := by
  unfold Lstm.hid
  rw [← cellOf_apply]
  unfold Ideal.logistic
  pointwise [hidOf, sig1]

section Scans
variable (x : (⟨S512x1536, .f32⟩ : BufTy).Contents (Elt Ideal)) (Wih : (⟨S1536x1536, .f32⟩ : BufTy).Contents (Elt Ideal))
  (Whh : (⟨S1536x384, .f32⟩ : BufTy).Contents (Elt Ideal)) (bih bhh : (⟨S1536, .f32⟩ : BufTy).Contents (Elt Ideal))

/-- The model's run on the scan's arguments. -/
def runOf : ℕ → (Fin 384 → EReal) × (Fin 384 → EReal) :=
  Lstm.run (fun r k => Wih (ix2 r k)) (fun r k => Whh (ix2 r k)) (fun r => bih (ix1 r) + bhh (ix1 r))
    (Lstm.ahead fun t r => x (ix2 t r))

/-- After `k` trips the scan carries the model's states. -/
theorem scanAt_state (k : ℕ) (hk : k ≤ 512) :
    (fun l => (scanAt x Wih Whh bih bhh k).h (ix1 l)) = (runOf x Wih Whh bih bhh k).1
    ∧ (fun l => (scanAt x Wih Whh bih bhh k).c (ix1 l)) = (runOf x Wih Whh bih bhh k).2 := by
  induction k with
  | zero =>
    refine ⟨funext fun l => ?_, funext fun l => ?_⟩ <;>
    · show scanInit.c (F := Ideal) (ix1 l) = 0
      pointwise [scanInit]
  | succ k ih =>
    obtain ⟨ih1, ih2⟩ := ih (by omega)
    have hG : (fun r => gates Wih Whh bih bhh (rowAt x fun _ => Scf.iv 0#32 1#32 k) (scanAt x Wih Whh bih bhh k).h (ix1 r))
        = Lstm.pre (fun r k => Wih (ix2 r k)) (fun r k => Whh (ix2 r k)) (fun r => bih (ix1 r) + bhh (ix1 r))
          (Lstm.ahead (fun t r => x (ix2 t r)) k) (runOf x Wih Whh bih bhh k).1 := by
      funext r
      rw [gates_apply, ih1]
      refine congrArg (fun y => Lstm.pre _ _ _ y _ r) (funext fun q => ?_)
      rw [rowAt_apply x k (by omega)]
      unfold Lstm.ahead
      rw [dif_pos (show k < 512 by omega)]
    refine ⟨funext fun l => (hidOf_apply _ _ l).trans ?_, funext fun l => (cellOf_apply _ _ l).trans ?_⟩ <;>
    · rw [hG, ih2]; rfl

/-- After `k` trips row `t` below `k` holds the hidden state after `t + 1` rows. -/
theorem scanAt_rows (k : ℕ) (hk : k ≤ 512) (t : Fin 512) (ht : t.val < k) (l : Fin 384) :
    (scanAt x Wih Whh bih bhh k).hs (ix2 t l) = (runOf x Wih Whh bih bhh (t.val + 1)).1 l := by
  induction k with
  | zero => omega
  | succ k ih =>
    refine (storeAt_apply _ _ k (by omega) t l).trans ?_
    by_cases e : t.val = k
    · rw [if_pos e, e]
      exact congrFun (scanAt_state x Wih Whh bih bhh (k + 1) hk).1 l
    · rw [if_neg e]
      exact ih (by omega) (by omega)

/-- The input's rows read from the end are the reversed input's rows. -/
theorem runOf_reverse (k : ℕ) (hk : k ≤ 512) : runOf (Host.reverse [0] x) Wih Whh bih bhh k
    = Lstm.run (fun r k => Wih (ix2 r k)) (fun r k => Whh (ix2 r k)) (fun r => bih (ix1 r) + bhh (ix1 r))
        (Lstm.behind fun t r => x (ix2 t r)) k := by
  induction k with
  | zero => rfl
  | succ k ih =>
    have hx : Lstm.ahead (fun t r => Host.reverse [0] x (ix2 t r)) k = Lstm.behind (fun t r => x (ix2 t r)) k := by
      funext r
      unfold Lstm.behind Lstm.ahead
      rw [dif_pos (show k < 512 by omega), dif_pos (show 511 - k < 512 by omega)]
      pointwise
      exact congrArg x (congrArg₂ ix2 (Fin.ext (show (Fin.rev (⟨k, by omega⟩ : Fin 512)).val = 511 - k by
        rw [Fin.val_rev]; show 512 - (k + 1) = 511 - k; omega)) rfl)
    have ih' := ih (by omega)
    unfold runOf at ih' ⊢
    unfold Lstm.run
    rw [ih', hx]

end Scans

/-- The state table is the model's. -/
theorem table_apply (x : (⟨S512x1536, .f32⟩ : BufTy).Contents (Elt Ideal)) (Wf Wb : (⟨S1536x1536, .f32⟩ : BufTy).Contents (Elt Ideal))
    (Uf Ub : (⟨S1536x384, .f32⟩ : BufTy).Contents (Elt Ideal)) (bf cf bb cb : (⟨S1536, .f32⟩ : BufTy).Contents (Elt Ideal))
    (t : Fin 512) (k : Fin 768) :
    table (scanAt x Wf Uf bf cf 512).hs (scanAt (Host.reverse [0] x) Wb Ub bb cb 512).hs (ix2 t k)
      = Lstm.states
          (Lstm.run (fun r k => Wf (ix2 r k)) (fun r k => Uf (ix2 r k)) (fun r => bf (ix1 r) + cf (ix1 r))
            (Lstm.ahead fun t r => x (ix2 t r)))
          (Lstm.run (fun r k => Wb (ix2 r k)) (fun r k => Ub (ix2 r k)) (fun r => bb (ix1 r) + cb (ix1 r))
            (Lstm.behind fun t r => x (ix2 t r))) t k := by
  unfold Lstm.states
  pointwise [table]
  split
  · exact scanAt_rows x Wf Uf bf cf 512 le_rfl t t.isLt _
  · have ht := t.isLt
    refine (scanAt_rows _ Wb Ub bb cb 512 le_rfl _ (Fin.isLt _) _).trans ?_
    rw [runOf_reverse _ _ _ _ _ _ (by omega)]
    exact congrFun (congrArg (fun n => (Lstm.run _ _ _ _ n).1) (show t.rev.val + 1 = 512 - t.val by rw [Fin.val_rev]; omega)) _

/-! ## The span scorer -/

/-- A word below 512 read signed. -/
theorem small_toInt (n : ℕ) (hn : n < 1024) : (BitVec.ofNat 32 n).toInt = n := by
  have e : (BitVec.ofNat 32 n).toNat = n := by rw [BitVec.toNat_ofNat]; omega
  rw [BitVec.toInt_eq_toNat_of_lt (by omega), e]

/-- The gather of rows at an index: where the index is the word of a row number, that row. -/
theorem rowsAt_apply (i : (⟨S512x30, .i32⟩ : BufTy).Contents (Elt Ideal)) (e : (⟨S512x768, .f32⟩ : BufTy).Contents (Elt Ideal))
    (t : Fin 512) (j : Fin 30) (k : Fin 768) (n : Fin 512) (hn : i (ix2 t j) = BitVec.ofNat 32 n.val) :
    rowsAt i e (ix3 t j k) = e (ix2 n k) := by
  have hs := n.isLt
  unfold rowsAt
  generalize hw : broadcastInDim S512x30x1 ![0, 1] bcast_S512x30_S512x30x1_0_1
        (select (cmpi CmpIPredicate.slt i (broadcastInDim S512x30 ![] bcast_S_S512x30 (constantI S_ 32 0#32)))
          (addi i (broadcastInDim S512x30 ![] bcast_S_S512x30 (constantI S_ 32 512#32))) i) = w
  have hwn : w (ix3 t j 0) = BitVec.ofNat 32 n.val := by
    subst hw
    pointwise
    rw [hn, WordCmp.cmpi_slt_ofNat (by omega) (by omega), WordCmp.select_decide, if_neg (Nat.not_lt_zero _)]
  unfold Host.gather
  refine congrArg e (funext fun a => Fin.ext ?_)
  match a with
  | ⟨0, _⟩ =>
    show GatherDims.start _ (ix3 t j k) w 0 + GatherDims.batchCoord _ _ _ + GatherDims.offCoord _ _ _ = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x768_S512x30x1_S512x30x768_2_0_n_n_0_2_1768.startIndexMap from List.mem_singleton.mpr rfl)]
    have hsi : GatherDims.siIdx gather_S512x768_S512x30x1_S512x30x768_2_0_n_n_0_2_1768 (ix3 t j k)
        ⟨List.idxOf (0 : Fin 2) [0], List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    refine (congrArg (fun v : BitVec 32 => min v.toInt.toNat 511) ((congrArg w hsi).trans hwn)).trans ?_
    show min (BitVec.ofNat 32 n.val).toInt.toNat 511 = n.val
    rw [small_toInt _ (by omega)]
    omega
  | ⟨1, _⟩ =>
    show GatherDims.start _ (ix3 t j k) w 1 + GatherDims.batchCoord _ _ _ + GatherDims.offCoord _ _ _ = k.val
    rw [GatherDims.batchCoord_eq_zero _ _ _ List.not_mem_nil]
    show GatherDims.start gather_S512x768_S512x30x1_S512x30x768_2_0_n_n_0_2_1768 (ix3 t j k) w (1 : Fin 2) + 0
        + GatherDims.offCoord gather_S512x768_S512x30x1_S512x30x768_2_0_n_n_0_2_1768 (ix3 t j k) (1 : Fin 2) = k.val
    unfold GatherDims.start GatherDims.offCoord
    rw [dif_neg (show (1 : Fin 2) ∉ gather_S512x768_S512x30x1_S512x30x768_2_0_n_n_0_2_1768.startIndexMap from
        fun h => Fin.zero_ne_one (List.mem_singleton.mp h).symm),
      dif_pos (show (1 : Fin 2) ∈ gather_S512x768_S512x30x1_S512x30x768_2_0_n_n_0_2_1768.sKept from by decide)]
    exact (Nat.zero_add _).trans rfl

/-- The begin of a span is its row. -/
theorem begins_apply (t : Fin 512) (j : Fin 30) : begins (F := Ideal) (ix2 t j) = BitVec.ofNat 32 t.val := by
  pointwise [begins]
  exact BitVec.add_zero _

/-- The end of a span is its row and the offset. -/
theorem ends_apply (t : Fin 512) (j : Fin 30) : ends (F := Ideal) (ix2 t j) = BitVec.ofNat 32 (t.val + j.val) := by
  have h : ends (F := Ideal) (ix2 t j) = begins (F := Ideal) (ix2 t j) + BitVec.ofNat 32 j.val := by
    pointwise [ends]
    rfl
  rw [h, begins_apply, BitVec.ofNat_add]

/-- Inside the sequence the clipped end is the end. -/
theorem clipped_apply (t : Fin 512) (j : Fin 30) (h : t.val + j.val < 512) :
    clipped (F := Ideal) (ix2 t j) = BitVec.ofNat 32 (t.val + j.val) := by
  have hc : clipped (F := Ideal) (ix2 t j) = IntOp.minsi (ends (F := Ideal) (ix2 t j)) 511#32 := by
    pointwise [clipped]
  rw [hc, ends_apply]
  unfold IntOp.minsi
  split
  · rfl
  · rename_i hn
    rw [BitVec.slt_iff_toInt_lt, small_toInt _ (by omega), small_toInt 511 (by omega)] at hn
    rw [show t.val + j.val = 511 by omega]

/-- The scores are the model's over the table's entries. -/
theorem scores_apply (hf hb : (⟨S512x384, .f32⟩ : BufTy).Contents (Elt Ideal)) (Wf : (⟨S384x1536, .f32⟩ : BufTy).Contents (Elt Ideal))
    (bf : (⟨S384, .f32⟩ : BufTy).Contents (Elt Ideal)) (Wo : (⟨S1x384, .f32⟩ : BufTy).Contents (Elt Ideal))
    (bo : (⟨S1, .f32⟩ : BufTy).Contents (Elt Ideal)) (t : Fin 512) (j : Fin 30) :
    scores hf hb Wf bf Wo bo (ix3 t j 0)
      = Lstm.score (fun t k => table hf hb (ix2 t k)) (fun l k => Wf (ix2 l k)) (fun l => bf (ix1 l)) (fun l => Wo (ix2 0 l))
          (bo (ix1 0)) t j := by
  have hi : scores hf hb Wf bf Wo bo (ix3 t j 0)
      = Scalar.select (IntOp.cmpi .slt (ends (F := Ideal) (ix2 t j)) 512#32)
        (∑ l, max (hidden (table hf hb) Wf bf (ix3 t j l)) 0 * Wo (ix2 0 l) + bo (ix1 0)) 0 := by
    pointwise [scores, outLayer, relu3, inside]
  rw [hi, ends_apply, WordCmp.cmpi_slt_ofNat (by omega) (by omega), WordCmp.select_decide]
  unfold Lstm.score
  split
  · rename_i h
    refine congrArg (· + bo (ix1 0)) (Finset.sum_congr rfl fun l _ => congrArg (fun y : EReal => max y 0 * Wo (ix2 0 l)) ?_)
    pointwise [hidden]
    refine congrArg (· + bf (ix1 l)) (congrArg₂ (· + ·) (Finset.sum_congr rfl fun k _ => ?_) (Finset.sum_congr rfl fun k _ => ?_))
    · exact congrArg (· * Wf (ix2 l ⟨k, by omega⟩)) (rowsAt_apply _ _ t j k t (begins_apply t j))
    · exact congrArg (· * Wf (ix2 l ⟨768 + k, by omega⟩)) (rowsAt_apply _ _ t j k ⟨t + j, h⟩ (clipped_apply t j h))
  · rfl

/-- The reference's value at an index, read off its thirteen arguments. -/
theorem value_apply (m : (l : Loc nD τ sig) → Buf (Elt Ideal) l) (c : Dev nD) (t : Fin 512) (j : Fin 30) :
    value m c (ix3 t j 0)
      = Lstm.spansOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) t j := by
  refine (scores_apply _ _ _ _ _ _ t j).trans ?_
  unfold Lstm.spansOf Lstm.spans
  refine congrArg (fun e => Lstm.score e _ _ _ _ t j) (funext fun t => funext fun k => ?_)
  exact table_apply _ _ _ _ _ _ _ _ _ t k

end Cert.ReferenceIdeal.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelMath
public import proofs.«01_k».proof.Proof.KernelPrinted
public import proofs.«01_k».proof.Proof.RefMath
public import Idealize.ShloMosaic.Adequacy
public import Idealize.ShloMosaic.Init

@[expose] public section

noncomputable section

namespace Cert.Proof

open Idealize.ShloMosaic Idealize.ShloMosaic.TcCoe Idealize.ShloMosaic.Pointwise Idealize.SL.Sem

/-- Results of the two programs that agree entry by entry are equal. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : ∀ t j, Cert.ReferenceIdeal.Scan.value m' c (ix3 t j 0) = Cert.KernelIdeal.Run.value m c (ix3 t j 0)) :
    Cert.ReferenceIdeal.Scan.value m' c = Cert.KernelIdeal.Run.value m c := by
  funext y
  have e : y = ix3 (y 0) (y 1) 0 := by
    refine funext fun a => ?_
    match a with
    | ⟨0, _⟩ => rfl
    | ⟨1, _⟩ => rfl
    | ⟨2, _⟩ => exact Subsingleton.elim (α := Fin 1) _ _
  rw [e]
  exact h (y 0) (y 1)

/-- The kernel and the reference end with equal results over the extended reals. -/
theorem algebraic : Cert.algebraic_KernelIdeal_ReferenceIdeal := fun m g m' g' _ hargs => by
  refine ⟨fun c => Cert.KernelIdeal.Run.value m c, Cert.KernelIdeal.Run.run_value m g,
    (θ_run _ _ _).mono (fun r h c => ⟨(h c).1.trans (values_eq m m' c fun t j => ?_), (h c).2⟩) (Cert.ReferenceIdeal.Scan.run_value m' g')⟩
  obtain ⟨e0, e1, e2, e3, e4, e5, e6, e7, e8, e9, e10, e11, e12⟩ := hargs c
  refine (Cert.ReferenceIdeal.Scan.value_apply m' c t j).trans ((Cert.KernelIdeal.Run.value_apply m c t j).trans ?_).symm
  rw [e0, e1, e2, e3, e4, e5, e6, e7, e8, e9, e10, e11, e12]

/-- Everything claimed of the three programs. -/
theorem claim : Cert.Claim := ⟨Cert.Kernel.Gen.facts, Cert.KernelIdeal.Gen.facts, Cert.ReferenceIdeal.Gen.facts,
  Cert.Kernel.Run.frame, Cert.KernelIdeal.Run.frame, Cert.ReferenceIdeal.Scan.frame, trivial, algebraic⟩

end Cert.Proof

end
